-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_cst_32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x256x1024 : Shape := ⟨3, ![32, 256, 1024]⟩
abbrev S_ : Shape := ⟨0, ![]⟩

class Facts : Prop where
  bcast_S_S32x256x1024 : S_.BroadcastsInDim S32x256x1024 (![] : Fin 0 → Fin S32x256x1024.rank)
  reducesTo_S32x256x1024_S_d0_1_2 : S32x256x1024.ReducesTo [0, 1, 2] S_
  h_S_ : 0 < S_.numel

variable [Facts]

def fn {F : FTy → Type} [FloatOps F] (main_arg0 : FVec F S32x256x1024 .f32) : IVec S_ 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_c : IVec S_ 1 := constantI S_ 1 1#1
  let main_v3 : IVec S_ 1 := (fun x v => Host.reduce IntOp.andi x v reducesTo_S32x256x1024_S_d0_1_2 h_S_) main_v2 main_c
  main_v3
-- ==== Kernel.lean ====
abbrev S32x256x1024 : Shape := ⟨3, ![32, 256, 1024]⟩
abbrev S32x1024x256 : Shape := ⟨3, ![32, 1024, 256]⟩
abbrev S1x256x256 : Shape := ⟨3, ![1, 256, 256]⟩
abbrev S256x256 : Shape := ⟨2, ![256, 256]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x1024x256, .i32⟩
  | .hbm, ⟨3, _⟩ => ⟨S_, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .i32⟩
  | .local _ .vmem, ⟨5, _⟩ => ⟨S1x256x256, .i32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S32x256x1024 : Shape := ⟨3, ![32, 256, 1024]⟩
abbrev S32x1024x256 : Shape := ⟨3, ![32, 1024, 256]⟩
abbrev S32768x256 : Shape := ⟨2, ![32768, 256]⟩
abbrev S_ : Shape := ⟨0, ![]⟩
abbrev S32768x32 : Shape := ⟨2, ![32768, 32]⟩
abbrev S15 : Shape := ⟨1, ![15]⟩
abbrev S1 : Shape := ⟨1, ![1]⟩
abbrev S16 : Shape := ⟨1, ![16]⟩
abbrev S32768x32x1 : Shape := ⟨3, ![32768, 32, 1]⟩
abbrev S1x1x16 : Shape := ⟨3, ![1, 1, 16]⟩
abbrev S32768x32x16 : Shape := ⟨3, ![32768, 32, 16]⟩

abbrev nBuf : Space → Nat
  | .hbm => 370
  | .vmem => 0
  | .smem => 0
  | _ => 0

abbrev hbmTy0_0 (i : Nat) : BufTy := match i % 128 with
  | 0 => ⟨S32x256x1024, .f32⟩
  | 1 => ⟨S32x1024x256, .f32⟩
  | 2 => ⟨S32768x256, .f32⟩
  | 3 => ⟨S_, .f32⟩
  | 4 => ⟨S32768x256, .f32⟩
  | 5 => ⟨S32768x256, .f32⟩
  | 6 => ⟨S32768x256, .f32⟩
  | 7 => ⟨S_, .f32⟩
  | 8 => ⟨S32768x256, .f32⟩
  | 9 => ⟨S32768x256, .f32⟩
  | 10 => ⟨S32768x32, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S15, .f32⟩
  | 19 => ⟨S_, .f32⟩
  | 20 => ⟨S15, .f32⟩
  | 21 => ⟨S15, .f32⟩
  | 22 => ⟨S1, .f32⟩
  | 23 => ⟨S_, .f32⟩
  | 24 => ⟨S15, .f32⟩
  | 25 => ⟨S15, .f32⟩
  | 26 => ⟨S15, .f32⟩
  | 27 => ⟨S15, .f32⟩
  | 28 => ⟨S1, .f32⟩
  | 29 => ⟨S15, .f32⟩
  | 30 => ⟨S15, .f32⟩
  | 31 => ⟨S15, .f32⟩
  | 32 => ⟨S1, .f32⟩
  | 33 => ⟨S16, .f32⟩
  | 34 => ⟨S32768x32x1, .f32⟩
  | 35 => ⟨S1x1x16, .f32⟩
  | 36 => ⟨S32768x32x16, .f32⟩
  | 37 => ⟨S32768x32x16, .f32⟩
  | 38 => ⟨S32768x32x16, .f32⟩
  | 39 => ⟨S32768x32x16, .f32⟩
  | 40 => ⟨S32768x32x16, .i32⟩
  | 41 => ⟨S_, .f32⟩
  | 42 => ⟨S_, .i32⟩
  | 43 => ⟨S32768x32, .f32⟩
  | 44 => ⟨S32768x32, .i32⟩
  | 45 => ⟨S_, .i32⟩
  | 46 => ⟨S32768x32, .i32⟩
  | 47 => ⟨S32768x32, .i1⟩
  | 48 => ⟨S_, .i32⟩
  | 49 => ⟨S32768x32, .i32⟩
  | 50 => ⟨S32768x32, .i32⟩
  | 51 => ⟨S32768x32, .i32⟩
  | 52 => ⟨S32768x32x1, .i32⟩
  | 53 => ⟨S32768x32, .f32⟩
  | 54 => ⟨S32768x32, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S15, .f32⟩
  | 63 => ⟨S_, .f32⟩
  | 64 => ⟨S15, .f32⟩
  | 65 => ⟨S15, .f32⟩
  | 66 => ⟨S1, .f32⟩
  | 67 => ⟨S_, .f32⟩
  | 68 => ⟨S15, .f32⟩
  | 69 => ⟨S15, .f32⟩
  | 70 => ⟨S15, .f32⟩
  | 71 => ⟨S15, .f32⟩
  | 72 => ⟨S1, .f32⟩
  | 73 => ⟨S15, .f32⟩
  | 74 => ⟨S15, .f32⟩
  | 75 => ⟨S15, .f32⟩
  | 76 => ⟨S1, .f32⟩
  | 77 => ⟨S16, .f32⟩
  | 78 => ⟨S32768x32x1, .f32⟩
  | 79 => ⟨S1x1x16, .f32⟩
  | 80 => ⟨S32768x32x16, .f32⟩
  | 81 => ⟨S32768x32x16, .f32⟩
  | 82 => ⟨S32768x32x16, .f32⟩
  | 83 => ⟨S32768x32x16, .f32⟩
  | 84 => ⟨S32768x32x16, .i32⟩
  | 85 => ⟨S_, .f32⟩
  | 86 => ⟨S_, .i32⟩
  | 87 => ⟨S32768x32, .f32⟩
  | 88 => ⟨S32768x32, .i32⟩
  | 89 => ⟨S_, .i32⟩
  | 90 => ⟨S32768x32, .i32⟩
  | 91 => ⟨S32768x32, .i1⟩
  | 92 => ⟨S_, .i32⟩
  | 93 => ⟨S32768x32, .i32⟩
  | 94 => ⟨S32768x32, .i32⟩
  | 95 => ⟨S32768x32, .i32⟩
  | 96 => ⟨S32768x32x1, .i32⟩
  | 97 => ⟨S32768x32, .f32⟩
  | 98 => ⟨S32768x32, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S15, .f32⟩
  | 107 => ⟨S_, .f32⟩
  | 108 => ⟨S15, .f32⟩
  | 109 => ⟨S15, .f32⟩
  | 110 => ⟨S1, .f32⟩
  | 111 => ⟨S_, .f32⟩
  | 112 => ⟨S15, .f32⟩
  | 113 => ⟨S15, .f32⟩
  | 114 => ⟨S15, .f32⟩
  | 115 => ⟨S15, .f32⟩
  | 116 => ⟨S1, .f32⟩
  | 117 => ⟨S15, .f32⟩
  | 118 => ⟨S15, .f32⟩
  | 119 => ⟨S15, .f32⟩
  | 120 => ⟨S1, .f32⟩
  | 121 => ⟨S16, .f32⟩
  | 122 => ⟨S32768x32x1, .f32⟩
  | 123 => ⟨S1x1x16, .f32⟩
  | 124 => ⟨S32768x32x16, .f32⟩
  | 125 => ⟨S32768x32x16, .f32⟩
  | 126 => ⟨S32768x32x16, .f32⟩
  | 127 => ⟨S32768x32x16, .f32⟩
  | _ => ⟨S32x256x1024, .f32⟩

abbrev hbmTy0_1 (i : Nat) : BufTy := match i % 128 with
  | 0 => ⟨S32768x32x16, .i32⟩
  | 1 => ⟨S_, .f32⟩
  | 2 => ⟨S_, .i32⟩
  | 3 => ⟨S32768x32, .f32⟩
  | 4 => ⟨S32768x32, .i32⟩
  | 5 => ⟨S_, .i32⟩
  | 6 => ⟨S32768x32, .i32⟩
  | 7 => ⟨S32768x32, .i1⟩
  | 8 => ⟨S_, .i32⟩
  | 9 => ⟨S32768x32, .i32⟩
  | 10 => ⟨S32768x32, .i32⟩
  | 11 => ⟨S32768x32, .i32⟩
  | 12 => ⟨S32768x32x1, .i32⟩
  | 13 => ⟨S32768x32, .f32⟩
  | 14 => ⟨S32768x32, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S15, .f32⟩
  | 23 => ⟨S_, .f32⟩
  | 24 => ⟨S15, .f32⟩
  | 25 => ⟨S15, .f32⟩
  | 26 => ⟨S1, .f32⟩
  | 27 => ⟨S_, .f32⟩
  | 28 => ⟨S15, .f32⟩
  | 29 => ⟨S15, .f32⟩
  | 30 => ⟨S15, .f32⟩
  | 31 => ⟨S15, .f32⟩
  | 32 => ⟨S1, .f32⟩
  | 33 => ⟨S15, .f32⟩
  | 34 => ⟨S15, .f32⟩
  | 35 => ⟨S15, .f32⟩
  | 36 => ⟨S1, .f32⟩
  | 37 => ⟨S16, .f32⟩
  | 38 => ⟨S32768x32x1, .f32⟩
  | 39 => ⟨S1x1x16, .f32⟩
  | 40 => ⟨S32768x32x16, .f32⟩
  | 41 => ⟨S32768x32x16, .f32⟩
  | 42 => ⟨S32768x32x16, .f32⟩
  | 43 => ⟨S32768x32x16, .f32⟩
  | 44 => ⟨S32768x32x16, .i32⟩
  | 45 => ⟨S_, .f32⟩
  | 46 => ⟨S_, .i32⟩
  | 47 => ⟨S32768x32, .f32⟩
  | 48 => ⟨S32768x32, .i32⟩
  | 49 => ⟨S_, .i32⟩
  | 50 => ⟨S32768x32, .i32⟩
  | 51 => ⟨S32768x32, .i1⟩
  | 52 => ⟨S_, .i32⟩
  | 53 => ⟨S32768x32, .i32⟩
  | 54 => ⟨S32768x32, .i32⟩
  | 55 => ⟨S32768x32, .i32⟩
  | 56 => ⟨S32768x32x1, .i32⟩
  | 57 => ⟨S32768x32, .f32⟩
  | 58 => ⟨S32768x32, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S15, .f32⟩
  | 67 => ⟨S_, .f32⟩
  | 68 => ⟨S15, .f32⟩
  | 69 => ⟨S15, .f32⟩
  | 70 => ⟨S1, .f32⟩
  | 71 => ⟨S_, .f32⟩
  | 72 => ⟨S15, .f32⟩
  | 73 => ⟨S15, .f32⟩
  | 74 => ⟨S15, .f32⟩
  | 75 => ⟨S15, .f32⟩
  | 76 => ⟨S1, .f32⟩
  | 77 => ⟨S15, .f32⟩
  | 78 => ⟨S15, .f32⟩
  | 79 => ⟨S15, .f32⟩
  | 80 => ⟨S1, .f32⟩
  | 81 => ⟨S16, .f32⟩
  | 82 => ⟨S32768x32x1, .f32⟩
  | 83 => ⟨S1x1x16, .f32⟩
  | 84 => ⟨S32768x32x16, .f32⟩
  | 85 => ⟨S32768x32x16, .f32⟩
  | 86 => ⟨S32768x32x16, .f32⟩
  | 87 => ⟨S32768x32x16, .f32⟩
  | 88 => ⟨S32768x32x16, .i32⟩
  | 89 => ⟨S_, .f32⟩
  | 90 => ⟨S_, .i32⟩
  | 91 => ⟨S32768x32, .f32⟩
  | 92 => ⟨S32768x32, .i32⟩
  | 93 => ⟨S_, .i32⟩
  | 94 => ⟨S32768x32, .i32⟩
  | 95 => ⟨S32768x32, .i1⟩
  | 96 => ⟨S_, .i32⟩
  | 97 => ⟨S32768x32, .i32⟩
  | 98 => ⟨S32768x32, .i32⟩
  | 99 => ⟨S32768x32, .i32⟩
  | 100 => ⟨S32768x32x1, .i32⟩
  | 101 => ⟨S32768x32, .f32⟩
  | 102 => ⟨S32768x32, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S15, .f32⟩
  | 111 => ⟨S_, .f32⟩
  | 112 => ⟨S15, .f32⟩
  | 113 => ⟨S15, .f32⟩
  | 114 => ⟨S1, .f32⟩
  | 115 => ⟨S_, .f32⟩
  | 116 => ⟨S15, .f32⟩
  | 117 => ⟨S15, .f32⟩
  | 118 => ⟨S15, .f32⟩
  | 119 => ⟨S15, .f32⟩
  | 120 => ⟨S1, .f32⟩
  | 121 => ⟨S15, .f32⟩
  | 122 => ⟨S15, .f32⟩
  | 123 => ⟨S15, .f32⟩
  | 124 => ⟨S1, .f32⟩
  | 125 => ⟨S16, .f32⟩
  | 126 => ⟨S32768x32x1, .f32⟩
  | 127 => ⟨S1x1x16, .f32⟩
  | _ => ⟨S32x256x1024, .f32⟩

abbrev hbmTy0_2 (i : Nat) : BufTy := match i % 128 with
  | 0 => ⟨S32768x32x16, .f32⟩
  | 1 => ⟨S32768x32x16, .f32⟩
  | 2 => ⟨S32768x32x16, .f32⟩
  | 3 => ⟨S32768x32x16, .f32⟩
  | 4 => ⟨S32768x32x16, .i32⟩
  | 5 => ⟨S_, .f32⟩
  | 6 => ⟨S_, .i32⟩
  | 7 => ⟨S32768x32, .f32⟩
  | 8 => ⟨S32768x32, .i32⟩
  | 9 => ⟨S_, .i32⟩
  | 10 => ⟨S32768x32, .i32⟩
  | 11 => ⟨S32768x32, .i1⟩
  | 12 => ⟨S_, .i32⟩
  | 13 => ⟨S32768x32, .i32⟩
  | 14 => ⟨S32768x32, .i32⟩
  | 15 => ⟨S32768x32, .i32⟩
  | 16 => ⟨S32768x32x1, .i32⟩
  | 17 => ⟨S32768x32, .f32⟩
  | 18 => ⟨S32768x32, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S15, .f32⟩
  | 27 => ⟨S_, .f32⟩
  | 28 => ⟨S15, .f32⟩
  | 29 => ⟨S15, .f32⟩
  | 30 => ⟨S1, .f32⟩
  | 31 => ⟨S_, .f32⟩
  | 32 => ⟨S15, .f32⟩
  | 33 => ⟨S15, .f32⟩
  | 34 => ⟨S15, .f32⟩
  | 35 => ⟨S15, .f32⟩
  | 36 => ⟨S1, .f32⟩
  | 37 => ⟨S15, .f32⟩
  | 38 => ⟨S15, .f32⟩
  | 39 => ⟨S15, .f32⟩
  | 40 => ⟨S1, .f32⟩
  | 41 => ⟨S16, .f32⟩
  | 42 => ⟨S32768x32x1, .f32⟩
  | 43 => ⟨S1x1x16, .f32⟩
  | 44 => ⟨S32768x32x16, .f32⟩
  | 45 => ⟨S32768x32x16, .f32⟩
  | 46 => ⟨S32768x32x16, .f32⟩
  | 47 => ⟨S32768x32x16, .f32⟩
  | 48 => ⟨S32768x32x16, .i32⟩
  | 49 => ⟨S_, .f32⟩
  | 50 => ⟨S_, .i32⟩
  | 51 => ⟨S32768x32, .f32⟩
  | 52 => ⟨S32768x32, .i32⟩
  | 53 => ⟨S_, .i32⟩
  | 54 => ⟨S32768x32, .i32⟩
  | 55 => ⟨S32768x32, .i1⟩
  | 56 => ⟨S_, .i32⟩
  | 57 => ⟨S32768x32, .i32⟩
  | 58 => ⟨S32768x32, .i32⟩
  | 59 => ⟨S32768x32, .i32⟩
  | 60 => ⟨S32768x32x1, .i32⟩
  | 61 => ⟨S32768x32, .f32⟩
  | 62 => ⟨S32768x32, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S15, .f32⟩
  | 71 => ⟨S_, .f32⟩
  | 72 => ⟨S15, .f32⟩
  | 73 => ⟨S15, .f32⟩
  | 74 => ⟨S1, .f32⟩
  | 75 => ⟨S_, .f32⟩
  | 76 => ⟨S15, .f32⟩
  | 77 => ⟨S15, .f32⟩
  | 78 => ⟨S15, .f32⟩
  | 79 => ⟨S15, .f32⟩
  | 80 => ⟨S1, .f32⟩
  | 81 => ⟨S15, .f32⟩
  | 82 => ⟨S15, .f32⟩
  | 83 => ⟨S15, .f32⟩
  | 84 => ⟨S1, .f32⟩
  | 85 => ⟨S16, .f32⟩
  | 86 => ⟨S32768x32x1, .f32⟩
  | 87 => ⟨S1x1x16, .f32⟩
  | 88 => ⟨S32768x32x16, .f32⟩
  | 89 => ⟨S32768x32x16, .f32⟩
  | 90 => ⟨S32768x32x16, .f32⟩
  | 91 => ⟨S32768x32x16, .f32⟩
  | 92 => ⟨S32768x32x16, .i32⟩
  | 93 => ⟨S_, .f32⟩
  | 94 => ⟨S_, .i32⟩
  | 95 => ⟨S32768x32, .f32⟩
  | 96 => ⟨S32768x32, .i32⟩
  | 97 => ⟨S_, .i32⟩
  | 98 => ⟨S32768x32, .i32⟩
  | 99 => ⟨S32768x32, .i1⟩
  | 100 => ⟨S_, .i32⟩
  | 101 => ⟨S32768x32, .i32⟩
  | 102 => ⟨S32768x32, .i32⟩
  | 103 => ⟨S32768x32, .i32⟩
  | 104 => ⟨S32768x32x1, .i32⟩
  | 105 => ⟨S32768x32, .f32⟩
  | 106 => ⟨S32768x256, .f32⟩
  | 107 => ⟨S32768x256, .i32⟩
  | 108 => ⟨S32x1024x256, .f32⟩
  | 109 => ⟨S32x256x1024, .f32⟩
  | 110 => ⟨S32x1024x256, .i32⟩
  | 111 => ⟨S32x256x1024, .f32⟩
  | 112 => ⟨S32x256x1024, .f32⟩
  | 113 => ⟨S_, .f32⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_call1_v0 : Ref sig .tc := ⟨.hbm, 40, rfl⟩
abbrev main_call1_cst : Ref sig .tc := ⟨.hbm, 41, rfl⟩
abbrev main_call1_c : Ref sig .tc := ⟨.hbm, 42, rfl⟩
abbrev main_call1_v1_0 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_cst : Ref sig .tc := ⟨.hbm, 60, rfl⟩
abbrev main_call2_v3 : Ref sig .tc := ⟨.hbm, 61, rfl⟩
abbrev main_call2_v4 : Ref sig .tc := ⟨.hbm, 62, rfl⟩
abbrev main_call2_cst_0 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_v15 : Ref sig .tc := ⟨.hbm, 75, rfl⟩
abbrev main_call2_v16 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_call3_v0 : Ref sig .tc := ⟨.hbm, 84, rfl⟩
abbrev main_call3_cst : Ref sig .tc := ⟨.hbm, 85, rfl⟩
abbrev main_call3_c : Ref sig .tc := ⟨.hbm, 86, rfl⟩
abbrev main_call3_v1_0 : Ref sig .tc := ⟨.hbm, 87, rfl⟩
abbrev main_v31 : Ref sig .tc := ⟨.hbm, 88, rfl⟩
abbrev main_c_6 : Ref sig .tc := ⟨.hbm, 89, rfl⟩
abbrev main_v32 : Ref sig .tc := ⟨.hbm, 90, rfl⟩
abbrev main_v33 : Ref sig .tc := ⟨.hbm, 91, rfl⟩
abbrev main_c_7 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_8 : Ref sig .tc := ⟨.hbm, 99, rfl⟩
abbrev main_cst_9 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_cst : Ref sig .tc := ⟨.hbm, 104, rfl⟩
abbrev main_call4_v3 : Ref sig .tc := ⟨.hbm, 105, rfl⟩
abbrev main_call4_v4 : Ref sig .tc := ⟨.hbm, 106, rfl⟩
abbrev main_call4_cst_0 : Ref sig .tc := ⟨.hbm, 107, rfl⟩
abbrev main_call4_v5 : Ref sig .tc := ⟨.hbm, 108, rfl⟩
abbrev main_call4_v6 : Ref sig .tc := ⟨.hbm, 109, rfl⟩
abbrev main_call4_v7 : Ref sig .tc := ⟨.hbm, 110, rfl⟩
abbrev main_call4_cst_1 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_v15 : Ref sig .tc := ⟨.hbm, 119, rfl⟩
abbrev main_call4_v16 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_call5_v0 : Ref sig .tc := ⟨.hbm, 128, rfl⟩
abbrev main_call5_cst : Ref sig .tc := ⟨.hbm, 129, rfl⟩
abbrev main_call5_c : Ref sig .tc := ⟨.hbm, 130, rfl⟩
abbrev main_call5_v1_0 : Ref sig .tc := ⟨.hbm, 131, rfl⟩
abbrev main_v47 : Ref sig .tc := ⟨.hbm, 132, rfl⟩
abbrev main_c_10 : Ref sig .tc := ⟨.hbm, 133, rfl⟩
abbrev main_v48 : Ref sig .tc := ⟨.hbm, 134, rfl⟩
abbrev main_v49 : Ref sig .tc := ⟨.hbm, 135, rfl⟩
abbrev main_c_11 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_cst_12 : Ref sig .tc := ⟨.hbm, 143, rfl⟩
abbrev main_cst_13 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_cst : Ref sig .tc := ⟨.hbm, 148, rfl⟩
abbrev main_call6_v3 : Ref sig .tc := ⟨.hbm, 149, rfl⟩
abbrev main_call6_v4 : Ref sig .tc := ⟨.hbm, 150, rfl⟩
abbrev main_call6_cst_0 : Ref sig .tc := ⟨.hbm, 151, rfl⟩
abbrev main_call6_v5 : Ref sig .tc := ⟨.hbm, 152, rfl⟩
abbrev main_call6_v6 : Ref sig .tc := ⟨.hbm, 153, rfl⟩
abbrev main_call6_v7 : Ref sig .tc := ⟨.hbm, 154, rfl⟩
abbrev main_call6_cst_1 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_v12 : Ref sig .tc := ⟨.hbm, 160, rfl⟩
abbrev main_call6_v13 : Ref sig .tc := ⟨.hbm, 161, rfl⟩
abbrev main_call6_v14 : Ref sig .tc := ⟨.hbm, 162, rfl⟩
abbrev main_call6_v15 : Ref sig .tc := ⟨.hbm, 163, rfl⟩
abbrev main_call6_v16 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_call7_v0 : Ref sig .tc := ⟨.hbm, 172, rfl⟩
abbrev main_call7_cst : Ref sig .tc := ⟨.hbm, 173, rfl⟩
abbrev main_call7_c : Ref sig .tc := ⟨.hbm, 174, rfl⟩
abbrev main_call7_v1_0 : Ref sig .tc := ⟨.hbm, 175, rfl⟩
abbrev main_v63 : Ref sig .tc := ⟨.hbm, 176, rfl⟩
abbrev main_c_14 : Ref sig .tc := ⟨.hbm, 177, rfl⟩
abbrev main_v64 : Ref sig .tc := ⟨.hbm, 178, rfl⟩
abbrev main_v65 : Ref sig .tc := ⟨.hbm, 179, rfl⟩
abbrev main_c_15 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_cst_16 : Ref sig .tc := ⟨.hbm, 187, rfl⟩
abbrev main_cst_17 : Ref sig .tc := ⟨.hbm, 188, rfl⟩
abbrev main_call8_v0 : Ref sig .tc := ⟨.hbm, 189, rfl⟩
abbrev main_call8_v1 : Ref sig .tc := ⟨.hbm, 190, rfl⟩
abbrev main_call8_v2 : Ref sig .tc := ⟨.hbm, 191, rfl⟩
abbrev main_call8_cst : Ref sig .tc := ⟨.hbm, 192, rfl⟩
abbrev main_call8_v3 : Ref sig .tc := ⟨.hbm, 193, rfl⟩
abbrev main_call8_v4 : Ref sig .tc := ⟨.hbm, 194, rfl⟩
abbrev main_call8_cst_0 : Ref sig .tc := ⟨.hbm, 195, rfl⟩
abbrev main_call8_v5 : Ref sig .tc := ⟨.hbm, 196, rfl⟩
abbrev main_call8_v6 : Ref sig .tc := ⟨.hbm, 197, rfl⟩
abbrev main_call8_v7 : Ref sig .tc := ⟨.hbm, 198, rfl⟩
abbrev main_call8_cst_1 : Ref sig .tc := ⟨.hbm, 199, rfl⟩
abbrev main_call8_v8 : Ref sig .tc := ⟨.hbm, 200, rfl⟩
abbrev main_call8_v9 : Ref sig .tc := ⟨.hbm, 201, rfl⟩
abbrev main_call8_v10 : Ref sig .tc := ⟨.hbm, 202, rfl⟩
abbrev main_call8_v11 : Ref sig .tc := ⟨.hbm, 203, rfl⟩
abbrev main_call8_v12 : Ref sig .tc := ⟨.hbm, 204, rfl⟩
abbrev main_call8_v13 : Ref sig .tc := ⟨.hbm, 205, rfl⟩
abbrev main_call8_v14 : Ref sig .tc := ⟨.hbm, 206, rfl⟩
abbrev main_call8_v15 : Ref sig .tc := ⟨.hbm, 207, rfl⟩
abbrev main_call8_v16 : Ref sig .tc := ⟨.hbm, 208, rfl⟩
abbrev main_v72 : Ref sig .tc := ⟨.hbm, 209, rfl⟩
abbrev main_v73 : Ref sig .tc := ⟨.hbm, 210, rfl⟩
abbrev main_v74 : Ref sig .tc := ⟨.hbm, 211, rfl⟩
abbrev main_v75 : Ref sig .tc := ⟨.hbm, 212, rfl⟩
abbrev main_v76 : Ref sig .tc := ⟨.hbm, 213, rfl⟩
abbrev main_v77 : Ref sig .tc := ⟨.hbm, 214, rfl⟩
abbrev main_v78 : Ref sig .tc := ⟨.hbm, 215, rfl⟩
abbrev main_call9_v0 : Ref sig .tc := ⟨.hbm, 216, rfl⟩
abbrev main_call9_cst : Ref sig .tc := ⟨.hbm, 217, rfl⟩
abbrev main_call9_c : Ref sig .tc := ⟨.hbm, 218, rfl⟩
abbrev main_call9_v1_0 : Ref sig .tc := ⟨.hbm, 219, rfl⟩
abbrev main_v79 : Ref sig .tc := ⟨.hbm, 220, rfl⟩
abbrev main_c_18 : Ref sig .tc := ⟨.hbm, 221, rfl⟩
abbrev main_v80 : Ref sig .tc := ⟨.hbm, 222, rfl⟩
abbrev main_v81 : Ref sig .tc := ⟨.hbm, 223, rfl⟩
abbrev main_c_19 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_cst_20 : Ref sig .tc := ⟨.hbm, 231, rfl⟩
abbrev main_cst_21 : Ref sig .tc := ⟨.hbm, 232, rfl⟩
abbrev main_call10_v0 : Ref sig .tc := ⟨.hbm, 233, rfl⟩
abbrev main_call10_v1 : Ref sig .tc := ⟨.hbm, 234, rfl⟩
abbrev main_call10_v2 : Ref sig .tc := ⟨.hbm, 235, rfl⟩
abbrev main_call10_cst : Ref sig .tc := ⟨.hbm, 236, rfl⟩
abbrev main_call10_v3 : Ref sig .tc := ⟨.hbm, 237, rfl⟩
abbrev main_call10_v4 : Ref sig .tc := ⟨.hbm, 238, rfl⟩
abbrev main_call10_cst_0 : Ref sig .tc := ⟨.hbm, 239, rfl⟩
abbrev main_call10_v5 : Ref sig .tc := ⟨.hbm, 240, rfl⟩
abbrev main_call10_v6 : Ref sig .tc := ⟨.hbm, 241, rfl⟩
abbrev main_call10_v7 : Ref sig .tc := ⟨.hbm, 242, rfl⟩
abbrev main_call10_cst_1 : Ref sig .tc := ⟨.hbm, 243, rfl⟩
abbrev main_call10_v8 : Ref sig .tc := ⟨.hbm, 244, rfl⟩
abbrev main_call10_v9 : Ref sig .tc := ⟨.hbm, 245, rfl⟩
abbrev main_call10_v10 : Ref sig .tc := ⟨.hbm, 246, rfl⟩
abbrev main_call10_v11 : Ref sig .tc := ⟨.hbm, 247, rfl⟩
abbrev main_call10_v12 : Ref sig .tc := ⟨.hbm, 248, rfl⟩
abbrev main_call10_v13 : Ref sig .tc := ⟨.hbm, 249, rfl⟩
abbrev main_call10_v14 : Ref sig .tc := ⟨.hbm, 250, rfl⟩
abbrev main_call10_v15 : Ref sig .tc := ⟨.hbm, 251, rfl⟩
abbrev main_call10_v16 : Ref sig .tc := ⟨.hbm, 252, rfl⟩
abbrev main_v88 : Ref sig .tc := ⟨.hbm, 253, rfl⟩
abbrev main_v89 : Ref sig .tc := ⟨.hbm, 254, rfl⟩
abbrev main_v90 : Ref sig .tc := ⟨.hbm, 255, rfl⟩
abbrev main_v91 : Ref sig .tc := ⟨.hbm, 256, rfl⟩
abbrev main_v92 : Ref sig .tc := ⟨.hbm, 257, rfl⟩
abbrev main_v93 : Ref sig .tc := ⟨.hbm, 258, rfl⟩
abbrev main_v94 : Ref sig .tc := ⟨.hbm, 259, rfl⟩
abbrev main_call11_v0 : Ref sig .tc := ⟨.hbm, 260, rfl⟩
abbrev main_call11_cst : Ref sig .tc := ⟨.hbm, 261, rfl⟩
abbrev main_call11_c : Ref sig .tc := ⟨.hbm, 262, rfl⟩
abbrev main_call11_v1_0 : Ref sig .tc := ⟨.hbm, 263, rfl⟩
abbrev main_v95 : Ref sig .tc := ⟨.hbm, 264, rfl⟩
abbrev main_c_22 : Ref sig .tc := ⟨.hbm, 265, rfl⟩
abbrev main_v96 : Ref sig .tc := ⟨.hbm, 266, rfl⟩
abbrev main_v97 : Ref sig .tc := ⟨.hbm, 267, rfl⟩
abbrev main_c_23 : Ref sig .tc := ⟨.hbm, 268, rfl⟩
abbrev main_v98 : Ref sig .tc := ⟨.hbm, 269, rfl⟩
abbrev main_v99 : Ref sig .tc := ⟨.hbm, 270, rfl⟩
abbrev main_v100 : Ref sig .tc := ⟨.hbm, 271, rfl⟩
abbrev main_v101 : Ref sig .tc := ⟨.hbm, 272, rfl⟩
abbrev main_v102 : Ref sig .tc := ⟨.hbm, 273, rfl⟩
abbrev main_v103 : Ref sig .tc := ⟨.hbm, 274, rfl⟩
abbrev main_cst_24 : Ref sig .tc := ⟨.hbm, 275, rfl⟩
abbrev main_cst_25 : Ref sig .tc := ⟨.hbm, 276, rfl⟩
abbrev main_call12_v0 : Ref sig .tc := ⟨.hbm, 277, rfl⟩
abbrev main_call12_v1 : Ref sig .tc := ⟨.hbm, 278, rfl⟩
abbrev main_call12_v2 : Ref sig .tc := ⟨.hbm, 279, rfl⟩
abbrev main_call12_cst : Ref sig .tc := ⟨.hbm, 280, rfl⟩
abbrev main_call12_v3 : Ref sig .tc := ⟨.hbm, 281, rfl⟩
abbrev main_call12_v4 : Ref sig .tc := ⟨.hbm, 282, rfl⟩
abbrev main_call12_cst_0 : Ref sig .tc := ⟨.hbm, 283, rfl⟩
abbrev main_call12_v5 : Ref sig .tc := ⟨.hbm, 284, rfl⟩
abbrev main_call12_v6 : Ref sig .tc := ⟨.hbm, 285, rfl⟩
abbrev main_call12_v7 : Ref sig .tc := ⟨.hbm, 286, rfl⟩
abbrev main_call12_cst_1 : Ref sig .tc := ⟨.hbm, 287, rfl⟩
abbrev main_call12_v8 : Ref sig .tc := ⟨.hbm, 288, rfl⟩
abbrev main_call12_v9 : Ref sig .tc := ⟨.hbm, 289, rfl⟩
abbrev main_call12_v10 : Ref sig .tc := ⟨.hbm, 290, rfl⟩
abbrev main_call12_v11 : Ref sig .tc := ⟨.hbm, 291, rfl⟩
abbrev main_call12_v12 : Ref sig .tc := ⟨.hbm, 292, rfl⟩
abbrev main_call12_v13 : Ref sig .tc := ⟨.hbm, 293, rfl⟩
abbrev main_call12_v14 : Ref sig .tc := ⟨.hbm, 294, rfl⟩
abbrev main_call12_v15 : Ref sig .tc := ⟨.hbm, 295, rfl⟩
abbrev main_call12_v16 : Ref sig .tc := ⟨.hbm, 296, rfl⟩
abbrev main_v104 : Ref sig .tc := ⟨.hbm, 297, rfl⟩
abbrev main_v105 : Ref sig .tc := ⟨.hbm, 298, rfl⟩
abbrev main_v106 : Ref sig .tc := ⟨.hbm, 299, rfl⟩
abbrev main_v107 : Ref sig .tc := ⟨.hbm, 300, rfl⟩
abbrev main_v108 : Ref sig .tc := ⟨.hbm, 301, rfl⟩
abbrev main_v109 : Ref sig .tc := ⟨.hbm, 302, rfl⟩
abbrev main_v110 : Ref sig .tc := ⟨.hbm, 303, rfl⟩
abbrev main_call13_v0 : Ref sig .tc := ⟨.hbm, 304, rfl⟩
abbrev main_call13_cst : Ref sig .tc := ⟨.hbm, 305, rfl⟩
abbrev main_call13_c : Ref sig .tc := ⟨.hbm, 306, rfl⟩
abbrev main_call13_v1_0 : Ref sig .tc := ⟨.hbm, 307, rfl⟩
abbrev main_v111 : Ref sig .tc := ⟨.hbm, 308, rfl⟩
abbrev main_c_26 : Ref sig .tc := ⟨.hbm, 309, rfl⟩
abbrev main_v112 : Ref sig .tc := ⟨.hbm, 310, rfl⟩
abbrev main_v113 : Ref sig .tc := ⟨.hbm, 311, rfl⟩
abbrev main_c_27 : Ref sig .tc := ⟨.hbm, 312, rfl⟩
abbrev main_v114 : Ref sig .tc := ⟨.hbm, 313, rfl⟩
abbrev main_v115 : Ref sig .tc := ⟨.hbm, 314, rfl⟩
abbrev main_v116 : Ref sig .tc := ⟨.hbm, 315, rfl⟩
abbrev main_v117 : Ref sig .tc := ⟨.hbm, 316, rfl⟩
abbrev main_v118 : Ref sig .tc := ⟨.hbm, 317, rfl⟩
abbrev main_v119 : Ref sig .tc := ⟨.hbm, 318, rfl⟩
abbrev main_cst_28 : Ref sig .tc := ⟨.hbm, 319, rfl⟩
abbrev main_cst_29 : Ref sig .tc := ⟨.hbm, 320, rfl⟩
abbrev main_call14_v0 : Ref sig .tc := ⟨.hbm, 321, rfl⟩
abbrev main_call14_v1 : Ref sig .tc := ⟨.hbm, 322, rfl⟩
abbrev main_call14_v2 : Ref sig .tc := ⟨.hbm, 323, rfl⟩
abbrev main_call14_cst : Ref sig .tc := ⟨.hbm, 324, rfl⟩
abbrev main_call14_v3 : Ref sig .tc := ⟨.hbm, 325, rfl⟩
abbrev main_call14_v4 : Ref sig .tc := ⟨.hbm, 326, rfl⟩
abbrev main_call14_cst_0 : Ref sig .tc := ⟨.hbm, 327, rfl⟩
abbrev main_call14_v5 : Ref sig .tc := ⟨.hbm, 328, rfl⟩
abbrev main_call14_v6 : Ref sig .tc := ⟨.hbm, 329, rfl⟩
abbrev main_call14_v7 : Ref sig .tc := ⟨.hbm, 330, rfl⟩
abbrev main_call14_cst_1 : Ref sig .tc := ⟨.hbm, 331, rfl⟩
abbrev main_call14_v8 : Ref sig .tc := ⟨.hbm, 332, rfl⟩
abbrev main_call14_v9 : Ref sig .tc := ⟨.hbm, 333, rfl⟩
abbrev main_call14_v10 : Ref sig .tc := ⟨.hbm, 334, rfl⟩
abbrev main_call14_v11 : Ref sig .tc := ⟨.hbm, 335, rfl⟩
abbrev main_call14_v12 : Ref sig .tc := ⟨.hbm, 336, rfl⟩
abbrev main_call14_v13 : Ref sig .tc := ⟨.hbm, 337, rfl⟩
abbrev main_call14_v14 : Ref sig .tc := ⟨.hbm, 338, rfl⟩
abbrev main_call14_v15 : Ref sig .tc := ⟨.hbm, 339, rfl⟩
abbrev main_call14_v16 : Ref sig .tc := ⟨.hbm, 340, rfl⟩
abbrev main_v120 : Ref sig .tc := ⟨.hbm, 341, rfl⟩
abbrev main_v121 : Ref sig .tc := ⟨.hbm, 342, rfl⟩
abbrev main_v122 : Ref sig .tc := ⟨.hbm, 343, rfl⟩
abbrev main_v123 : Ref sig .tc := ⟨.hbm, 344, rfl⟩
abbrev main_v124 : Ref sig .tc := ⟨.hbm, 345, rfl⟩
abbrev main_v125 : Ref sig .tc := ⟨.hbm, 346, rfl⟩
abbrev main_v126 : Ref sig .tc := ⟨.hbm, 347, rfl⟩
abbrev main_call15_v0 : Ref sig .tc := ⟨.hbm, 348, rfl⟩
abbrev main_call15_cst : Ref sig .tc := ⟨.hbm, 349, rfl⟩
abbrev main_call15_c : Ref sig .tc := ⟨.hbm, 350, rfl⟩
abbrev main_call15_v1_0 : Ref sig .tc := ⟨.hbm, 351, rfl⟩
abbrev main_v127 : Ref sig .tc := ⟨.hbm, 352, rfl⟩
abbrev main_c_30 : Ref sig .tc := ⟨.hbm, 353, rfl⟩
abbrev main_v128 : Ref sig .tc := ⟨.hbm, 354, rfl⟩
abbrev main_v129 : Ref sig .tc := ⟨.hbm, 355, rfl⟩
abbrev main_c_31 : Ref sig .tc := ⟨.hbm, 356, rfl⟩
abbrev main_v130 : Ref sig .tc := ⟨.hbm, 357, rfl⟩
abbrev main_v131 : Ref sig .tc := ⟨.hbm, 358, rfl⟩
abbrev main_v132 : Ref sig .tc := ⟨.hbm, 359, rfl⟩
abbrev main_v133 : Ref sig .tc := ⟨.hbm, 360, rfl⟩
abbrev main_v134 : Ref sig .tc := ⟨.hbm, 361, rfl⟩
abbrev main_v135 : Ref sig .tc := ⟨.hbm, 362, rfl⟩
abbrev main_v136 : Ref sig .tc := ⟨.hbm, 363, rfl⟩
abbrev main_v137 : Ref sig .tc := ⟨.hbm, 364, rfl⟩
abbrev main_v138 : Ref sig .tc := ⟨.hbm, 365, rfl⟩
abbrev main_v139 : Ref sig .tc := ⟨.hbm, 366, rfl⟩
abbrev main_v140 : Ref sig .tc := ⟨.hbm, 367, rfl⟩
abbrev main_v141 : Ref sig .tc := ⟨.hbm, 368, rfl⟩
abbrev main_cst_32 : Ref sig .tc := ⟨.hbm, 369, rfl⟩

abbrev nD : Nat := 1
abbrev τ : Topo := Topo.v7x

variable {F : FTy → Type} [FloatOps F]
-- ==== Proof.Levels.lean ====
/-
  The 16 levels of the quantiser and the nearest one, over the reals: a value of [-1, 1] is at most 1/16
  from the level its truncated count names, and of two levels equally near the count names the lower.
-/
module

public import Mathlib.Data.Real.Basic
public import Mathlib.Algebra.Order.Floor.Ring
public import Mathlib.Tactic.Linarith
public import Mathlib.Tactic.NormNum
public import Mathlib.Tactic.Push
public import Mathlib.Algebra.Order.Archimedean.Real.Basic

@[expose] public section

noncomputable section

namespace Fsq

/-- Level `i` of the 16: from -15/16 in steps of 1/8. -/
def level (i : ℕ) : ℝ := -(15 / 16) + i / 8

/-- How many eighths `y` lies below 1, counted whole and at most 15. -/
def below (y : ℝ) : ℕ := min ⌊8 - 8 * y⌋₊ 15

/-- The index the count gives. -/
def nearest (y : ℝ) : ℕ := 15 - below y

/-- At most 15 levels are passed over. -/
theorem below_le (y : ℝ) : below y ≤ 15 := min_le_right _ _

/-- The nearest level's index is below 16. -/
theorem nearest_lt (y : ℝ) : nearest y < 16 := by
  unfold nearest; omega

/-- The level the count names, measured from the top. -/
theorem level_nearest (y : ℝ) : level (nearest y) = 15 / 16 - 1 / 8 * below y := by
  have h : (nearest y : ℝ) = 15 - below y := by
    rw [nearest, Nat.cast_sub (below_le y)]; norm_num
  rw [level, h]; ring

variable {y : ℝ} (h₁ : -1 ≤ y) (h₂ : y ≤ 1)
include h₁ h₂

/-- The nearest level is within 1/16, and at exactly 1/16 only from below the value or at the lowest level. -/
theorem near_bounds : y - level (nearest y) ≤ 1 / 16 ∧
    (-(1 / 16) < y - level (nearest y) ∨ (nearest y = 0 ∧ y - level (nearest y) = -(1 / 16))) := by
  have h0 : (0 : ℝ) ≤ 8 - 8 * y := by linarith
  have hle := Nat.floor_le h0
  have hlt := Nat.lt_floor_add_one (8 - 8 * y)
  rw [level_nearest]
  rcases Nat.lt_or_ge 15 ⌊8 - 8 * y⌋₊ with h | h
  · have hb : below y = 15 := min_eq_right h.le
    have h16 : (16 : ℝ) ≤ ⌊8 - 8 * y⌋₊ := by exact_mod_cast h
    have hy : y = -1 := by linarith
    rw [nearest, hb, hy]
    norm_num
  · have hb : (below y : ℝ) = ⌊8 - 8 * y⌋₊ := by rw [below, min_eq_left h]
    rw [hb]
    exact ⟨by linarith, Or.inl (by linarith)⟩

/-- Every lower level is strictly farther. -/
theorem nearest_first {i : ℕ} (hi : i < nearest y) : |y - level (nearest y)| < |y - level i| := by
  obtain ⟨hu, hl⟩ := near_bounds h₁ h₂
  have hc : (i : ℝ) + 1 ≤ nearest y := by exact_mod_cast hi
  have hlev : level i + 1 / 8 ≤ level (nearest y) := by unfold level; linarith
  have hl : -(1 / 16) < y - level (nearest y) := hl.resolve_right fun h => by omega
  rw [abs_of_pos (a := y - level i) (by linarith), abs_lt]
  constructor <;> linarith

/-- Every level is at least as far. -/
theorem nearest_least (i : ℕ) : |y - level (nearest y)| ≤ |y - level i| := by
  rcases lt_trichotomy i (nearest y) with h | h | h
  · exact (nearest_first h₁ h₂ h).le
  · rw [h]
  · obtain ⟨hu, hl⟩ := near_bounds h₁ h₂
    have hc : (nearest y : ℝ) + 1 ≤ i := by exact_mod_cast h
    have hlev : level (nearest y) + 1 / 8 ≤ level i := by unfold level; linarith
    have hl : -(1 / 16) ≤ y - level (nearest y) := hl.elim le_of_lt fun h => h.2.ge
    rw [abs_of_nonpos (a := y - level i) (by linarith), abs_le]
    constructor <;> linarith

end Fsq

end
-- ==== Proof.Words.lean ====
/-
  The numbers both programs are written with, and the kernel's count of eighths as a 32-bit word.
-/
module

public import proofs.«01_k».proof.Proof.Levels
public import Idealize.ShloMosaic.PureOps.Ideal.Laws

@[expose] public section

noncomputable section

namespace Fsq

open Idealize.ShloMosaic

/-- The word of 8. -/
theorem bits_eight : Ideal.ofBits .f32 0x41000000#32 = ((8 : ℝ) : EReal) := by
  simp [Ideal.ofBits, Ideal.ieee, -EReal.coe_mul]; norm_num

/-- The word of 1/8. -/
theorem bits_eighth : Ideal.ofBits .f32 0x3E000000#32 = ((1 / 8 : ℝ) : EReal) := by
  simp [Ideal.ofBits, Ideal.ieee, -EReal.coe_mul]; norm_num

/-- The word of 15. -/
theorem bits_fifteen : Ideal.ofBits .f32 0x41700000#32 = ((15 : ℝ) : EReal) := by
  simp [Ideal.ofBits, Ideal.ieee, -EReal.coe_mul]; norm_num

/-- The word of the top level, 15/16. -/
theorem bits_top_level : Ideal.ofBits .f32 0x3F700000#32 = ((15 / 16 : ℝ) : EReal) := by
  simp [Ideal.ofBits, Ideal.ieee, -EReal.coe_mul]; norm_num

/-- The word of the lowest level, -15/16. -/
theorem bits_low_level : Ideal.ofBits .f32 0xBF700000#32 = ((-(15 / 16) : ℝ) : EReal) := by
  simp [Ideal.ofBits, Ideal.ieee, -EReal.coe_mul]; norm_num

/-- The word of +∞. -/
theorem bits_inf : Ideal.ofBits .f32 0x7F800000#32 = ⊤ := by
  simp [Ideal.ofBits, Ideal.ieee]

/-- A small number's word, read signed, is the number. -/
theorem toInt_word {n : ℕ} (h : n < 16) : (BitVec.ofNat 32 n).toInt = n := by
  interval_cases n <;> rfl

/-- A small number's word as a float is the number. -/
theorem sitofp_word {n : ℕ} (h : n < 16) :
    (FloatOps.sitofp (F := Ideal) .f32 (BitVec.ofNat 32 n) : EReal) = ((n : ℝ) : EReal) := by
  show (((BitVec.ofNat 32 n).toInt : ℝ) : EReal) = _
  rw [toInt_word h]; norm_cast

/-- The truncated and capped count of eighths is the word of `below y`. -/
theorem count_word {y : ℝ} (h₁ : -1 ≤ y) (h₂ : y ≤ 1) :
    IntOp.minsi (Ideal.fptosi 32 ((8 - 8 * y : ℝ) : EReal)) 15#32 = BitVec.ofNat 32 (below y) := by
  have h0 : (0 : ℝ) ≤ 8 - 8 * y := by linarith
  have hf : ⌊8 - 8 * y⌋ = (⌊8 - 8 * y⌋₊ : ℤ) := (Int.natCast_floor_eq_floor h0).symm
  have hle : ⌊8 - 8 * y⌋₊ ≤ 16 := Nat.floor_le_of_le (by norm_num; linarith)
  rw [Ideal.fptosi, Ideal.toIntClamped_coe, if_pos h0, hf, below]
  generalize ⌊8 - 8 * y⌋₊ = n at hle
  interval_cases n <;> rfl

/-- The index counted from the other end is the word of `nearest y`. -/
theorem index_word (y : ℝ) : IntOp.subi 15#32 (BitVec.ofNat 32 (below y)) = BitVec.ofNat 32 (nearest y) := by
  have h := below_le y
  rw [nearest]
  generalize below y = n at h
  interval_cases n <;> rfl

/-- The value the kernel makes of the count is the nearest level. -/
theorem value_level (y : ℝ) :
    ((15 / 16 : ℝ) : EReal) - ((1 / 8 : ℝ) : EReal) * (((BitVec.ofNat 32 (below y)).toInt : ℝ) : EReal) =
      (level (nearest y) : EReal) := by
  rw [toInt_word (Nat.lt_succ_of_le (below_le y)), level_nearest, ← EReal.coe_mul, ← EReal.coe_sub]
  norm_cast

end Fsq

end
-- ==== Proof.KernelBlock.lean ====
/-
  What one grid point of the kernel computes from its block: for each real z the level nearest tanh z, and, with
  the block transposed, that level's index.
-/
module

public import proofs.«01_k».proof.Proof.Words
public import proofs.«01_k».proof.Proof.Gen.KernelIdeal.Skeleton
public import Idealize.ShloMosaic.Lib.Pointwise

@[expose] public section

noncomputable section

namespace Fsq.Kernel

open Idealize.ShloMosaic
open Cert.KernelIdeal Cert.KernelIdeal.Gen

variable (x : Vec Ideal S1x256x256 .f32) (d t : Fin 256) {z : ℝ} (hz : x (ix3 0 d t) = (z : EReal))
include hz

/-- The number of levels passed over, counted from the top one down. -/
theorem count_block : k0_pay1 x (ix2 d t) = BitVec.ofNat 32 (below (Real.tanh z)) := by
  rw [← count_word (Real.neg_one_lt_tanh z).le (Real.tanh_lt_one z).le]
  pointwise [k0_pay1]
  rw [hz, Ideal.tanh_coe, bits_eight, ← EReal.coe_mul, ← EReal.coe_sub]
  rfl

/-- The level nearest tanh z. -/
theorem level_block : k0_pay2 x (ix3 0 d t) = (level (nearest (Real.tanh z)) : EReal) := by
  have h := count_block x d t hz
  pointwise [k0_pay2]
  rw [h, bits_top_level, bits_eighth]
  exact value_level _

/-- Its index, at the transposed place. -/
theorem index_block : k0_pay3 x (ix3 0 t d) = BitVec.ofNat 32 (nearest (Real.tanh z)) := by
  have h := count_block x d t hz
  pointwise [k0_pay3]
  rw [h, index_word]

end Fsq.Kernel

end
-- ==== Proof.KernelArray.lean ====
/-
  What the kernel's result arrays hold after its run, from the blocks its grid points write, which tile them.
-/
module

public import proofs.«01_k».proof.Proof.KernelBlock
public import proofs.«01_k».proof.Proof.Gen.KernelIdeal.Frame
public import Idealize.ShloMosaic.Lib.Pipeline.ValueKit

@[expose] public section

noncomputable section

namespace Fsq.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The place in the input that an element of the index array comes from. -/
def swap (i : S32x1024x256.Idx) : S32x256x1024.Idx := ix3 (i 0) (i 2) (i 1)

/-- Every index of a block has first coordinate 0. -/
theorem eq_block (y : S1x256x256.Idx) : ∃ d t : Fin 256, y = ix3 0 d t := by
  refine ⟨y 1, y 2, funext fun a => ?_⟩
  match a with
  | ⟨0, _⟩ => exact Subsingleton.elim (α := Fin 1) _ _
  | ⟨1, _⟩ => rfl
  | ⟨2, _⟩ => rfl

/-- Where each grid point's block of the input lies, -/
theorem index_in : ∀ t : Fin cfg0.N, win0_0.index t = ![(grid0.coords t 0).val, 0, (grid0.coords t 1).val] :=
  (by decide +kernel : ∀ t : Fin grid0.N, win0_0.index t = ![(grid0.coords t 0).val, 0, (grid0.coords t 1).val])

/-- and where its block of the index array lies. -/
theorem index_out : ∀ t : Fin cfg0.N, win0_2.index t = ![(grid0.coords t 0).val, (grid0.coords t 1).val, 0] :=
  (by decide +kernel : ∀ t : Fin grid0.N, win0_2.index t = ![(grid0.coords t 0).val, (grid0.coords t 1).val, 0])

/-- Where the input is the real z, the first result array holds the level nearest tanh z. -/
theorem level_array (i : S32x256x1024.Idx) (z : ℝ) (hz : m (c.tc.loc main_arg0) i = (z : EReal)) :
    (dats m 0 c).arrAt 1 cfg0.N i = (level (nearest (Real.tanh z)) : EReal) := by
  revert z
  refine (dats m 0 c).arrAt_forall_of_covers 1 (fun i v => ∀ z : ℝ, m (c.tc.loc main_arg0) i = (z : EReal) →
    v = (level (nearest (Real.tanh z)) : EReal)) (by decide +kernel) (fun t hf y z hz => ?_) i
  blk_simp
  rw [after0_1]
  frame_out
  obtain ⟨d, s, rfl⟩ := eq_block y
  exact level_block _ d s hz

/-- And the second holds that level's index, at the transposed place. -/
theorem index_array (i : S32x1024x256.Idx) (z : ℝ) (hz : m (c.tc.loc main_arg0) (swap i) = (z : EReal)) :
    (dats m 0 c).arrAt 2 cfg0.N i = BitVec.ofNat 32 (nearest (Real.tanh z)) := by
  revert z
  refine (dats m 0 c).arrAt_forall_of_covers 2 (fun i v => ∀ z : ℝ, m (c.tc.loc main_arg0) (swap i) = (z : EReal) →
    v = BitVec.ofNat 32 (nearest (Real.tanh z))) (by decide +kernel) (fun t hf y z hz => ?_) i
  blk_simp
  rw [after0_2]
  frame_out
  obtain ⟨s, d, rfl⟩ := eq_block y
  refine index_block _ d s (Eq.trans ?_ hz)
  refine congrArg (m (c.tc.loc main_arg0)) ?_
  blk_ext [swap, index_in, index_out]

/-- The kernel's run: the arrays hold what its grid points wrote, the third result is 0, the argument is unchanged. -/
theorem run : θ_run defs (onTc (τ := τ) (main (F := Ideal))) ⟨m, fun _ => 0, ρ⟩ fun r => ∀ c : Dev nD,
    r.2.mem (c.tc.loc main_v0_0) = (dats m 0 c).arrAt 1 cfg0.N ∧
    r.2.mem (c.tc.loc main_v0_1) = (dats m 0 c).arrAt 2 cfg0.N ∧
    r.2.mem (c.tc.loc main_cst) = constant (F := Ideal) S_ .f32 0x00000000#32 ∧
    r.2.mem (c.tc.loc main_arg0) = m (c.tc.loc main_arg0) :=
  (θ_run defs _ _).mono (fun _ h c => ⟨h.out_eq c 1, h.out_eq c 2, (h.rest_eq c main_cst (by decide)).trans rfl,
    (h.in_eq c 0 rfl).trans ((A_eq m c 0).trans (V_main_arg0 m c))⟩) (run_main m ρ)

end Fsq.Kernel

end
-- ==== Proof.Ssa.lean ====
/-
  A straight line of tensor operations in which every buffer is written once and read only after it has
  been written. At the end of such a line every operation's equation holds of the final contents, so
  what the line computes is read off as a system of equations, one per operation.
-/
module

public import Idealize.ShloMosaic.Lib.StableHlo.Run

@[expose] public section

noncomputable section

namespace Fsq.Ssa

open Idealize.ShloMosaic Idealize.ShloMosaic.StableHlo

variable {τ : Topo} {sig : RefSig} {Val : EltTy → Type}

/-- The value a typed reference's buffer holds. -/
def get {T : BufTy} (W : Valuation τ sig Val) (r : TRef sig T) : T.Contents Val :=
  r.ofBuf (W (Proc.devRef .tc r.ref))

/-- An operation with the one buffer it writes, the buffers it reads, and the equation it leaves true of
    any later contents that agree with it on those buffers. -/
structure Step (τ : Topo) (sig : RefSig) (Val : EltTy → Type) where
  /-- the operation -/
  op : HloOp τ sig Val
  /-- the buffer it writes -/
  out : Ref sig .tc
  /-- the buffers it reads -/
  ins : List (Ref sig .tc)
  writes_eq : op.writes = {Proc.devRef .tc out}
  bufs_sub : op.bufs ⊆ tcRefs τ sig
  fresh_eq : op.fresh = ∅
  /-- the equation -/
  Eqn : Valuation τ sig Val → Prop
  sound : ∀ V W, (∀ x ∈ ins, V (Proc.devRef .tc x) = W (Proc.devRef .tc x)) →
    op.result V (Proc.devRef .tc out) = W (Proc.devRef .tc out) → Eqn W

/-- A buffer's place in the order of writing: its index in its memory. -/
def rank (r : Ref sig .tc) : Nat := r.idx.val

/-- The outputs' ranks rise along the list from `n` on, each above the ranks of that step's inputs. -/
def rising : Nat → List (Nat × List Nat) → Bool
  | _, [] => true
  | n, (y, xs) :: l => decide (n ≤ y) && xs.all (fun x => decide (x < y)) && rising (y + 1) l

/-- The ranks a line of steps is checked by. -/
def ranks (l : List (Step τ sig Val)) : List (Nat × List Nat) :=
  l.map fun s => (rank s.out, s.ins.map rank)

/-- The line's operations. -/
def ops (l : List (Step τ sig Val)) : List (HloOp τ sig Val) := l.map Step.op

/-- The operations of two lines, one after the other. -/
theorem ops_append (l l' : List (Step τ sig Val)) : ops (l ++ l') = ops l ++ ops l' := List.map_append

/-- A step leaves every buffer but its output. -/
theorem Step.result_ne (s : Step τ sig Val) (V : Valuation τ sig Val) (r : Ref sig .tc) (h : rank r ≠ rank s.out) :
    s.op.result V (Proc.devRef .tc r) = V (Proc.devRef .tc r) := by
  refine s.op.result_of_not_mem V ?_
  rw [s.writes_eq, Finset.mem_singleton]
  exact devRef_ne_of_ne fun e => h (congrArg rank e)

/-- A line rising from `n` leaves every buffer of rank below `n`. -/
theorem kept (l : List (Step τ sig Val)) : ∀ (n : Nat) (V : Valuation τ sig Val) (r : Ref sig .tc),
    rising n (ranks l) = true → rank r < n → after (ops l) V (Proc.devRef .tc r) = V (Proc.devRef .tc r) := by
  induction l with
  | nil => intro n V r _ _; rfl
  | cons s l ih =>
    intro n V r h hr
    simp only [ranks, List.map_cons, rising, Bool.and_eq_true, decide_eq_true_eq] at h
    refine (ih (rank s.out + 1) (s.op.result V) r h.2 (by omega)).trans ?_
    exact s.result_ne V r (by omega)

/-- At the end of a rising line every step's equation holds. -/
theorem eqns (l : List (Step τ sig Val)) : ∀ (n : Nat) (V : Valuation τ sig Val),
    rising n (ranks l) = true → ∀ s ∈ l, s.Eqn (after (ops l) V) := by
  induction l with
  | nil => intro n V _ s hs; exact absurd hs List.not_mem_nil
  | cons s l ih =>
    intro n V h t ht
    simp only [ranks, List.map_cons, rising, Bool.and_eq_true, decide_eq_true_eq, List.all_eq_true,
      List.mem_map, forall_exists_index, and_imp, forall_apply_eq_imp_iff₂] at h
    obtain ⟨⟨_, hx⟩, hl⟩ := h
    rcases List.mem_cons.1 ht with rfl | ht
    · refine t.sound V _ (fun x hxm => ?_) ?_
      · have hlt := hx x hxm
        exact ((kept l _ (t.op.result V) x hl (by omega)).trans (t.result_ne V x (by omega))).symm
      · exact (kept l _ (t.op.result V) t.out hl (by omega)).symm
    · exact ih _ (s.op.result V) hl t ht

/-! ## The steps of the operation builders -/

section Builders

variable {Tx Ta Tb Tc Te Ty : BufTy}

/-- A constant. -/
def Step.nullary (y : TRef sig Ty) (v : Ty.Contents Val) : Step τ sig Val where
  op := TRef.nullary y v
  out := y.ref
  ins := []
  writes_eq := nullary_writes ..
  bufs_sub := nullary_bufs_sub ..
  fresh_eq := rfl
  Eqn W := get W y = v
  sound V W _ h := by
    rw [nullary_result] at h
    rw [get, ← h, TRef.ofBuf_toBuf]

/-- An operation of one operand. -/
def Step.unary (x : TRef sig Tx) (y : TRef sig Ty) (f : Tx.Contents Val → Ty.Contents Val) : Step τ sig Val where
  op := TRef.unary x y f
  out := y.ref
  ins := [x.ref]
  writes_eq := unary_writes ..
  bufs_sub := unary_bufs_sub ..
  fresh_eq := rfl
  Eqn W := get W y = f (get W x)
  sound V W hx h := by
    rw [unary_result] at h
    rw [get, ← h, TRef.ofBuf_toBuf, hx x.ref (by simp), get]

/-- An operation of two operands. -/
def Step.binary (a : TRef sig Ta) (b : TRef sig Tb) (y : TRef sig Ty)
    (f : Ta.Contents Val → Tb.Contents Val → Ty.Contents Val) : Step τ sig Val where
  op := TRef.binary a b y f
  out := y.ref
  ins := [a.ref, b.ref]
  writes_eq := binary_writes ..
  bufs_sub := binary_bufs_sub ..
  fresh_eq := rfl
  Eqn W := get W y = f (get W a) (get W b)
  sound V W hx h := by
    rw [binary_result] at h
    rw [get, ← h, TRef.ofBuf_toBuf, hx a.ref (by simp), hx b.ref (by simp), get, get]

/-- An operation of three operands. -/
def Step.ternary (c : TRef sig Tc) (a : TRef sig Ta) (b : TRef sig Tb) (y : TRef sig Ty)
    (f : Tc.Contents Val → Ta.Contents Val → Tb.Contents Val → Ty.Contents Val) : Step τ sig Val where
  op := TRef.ternary c a b y f
  out := y.ref
  ins := [c.ref, a.ref, b.ref]
  writes_eq := ternary_writes ..
  bufs_sub := ternary_bufs_sub ..
  fresh_eq := rfl
  Eqn W := get W y = f (get W c) (get W a) (get W b)
  sound V W hx h := by
    rw [ternary_result] at h
    rw [get, ← h, TRef.ofBuf_toBuf, hx c.ref (by simp), hx a.ref (by simp), hx b.ref (by simp), get, get, get]

/-- An operation of four operands. -/
def Step.quaternary (a : TRef sig Ta) (b : TRef sig Tb) (c : TRef sig Tc) (e : TRef sig Te) (y : TRef sig Ty)
    (f : Ta.Contents Val → Tb.Contents Val → Tc.Contents Val → Te.Contents Val → Ty.Contents Val) :
    Step τ sig Val where
  op := TRef.quaternary a b c e y f
  out := y.ref
  ins := [a.ref, b.ref, c.ref, e.ref]
  writes_eq := quaternary_writes ..
  bufs_sub := quaternary_bufs_sub ..
  fresh_eq := rfl
  Eqn W := get W y = f (get W a) (get W b) (get W c) (get W e)
  sound V W hx h := by
    rw [quaternary_result] at h
    rw [get, ← h, TRef.ofBuf_toBuf, hx a.ref (by simp), hx b.ref (by simp), hx c.ref (by simp),
      hx e.ref (by simp), get, get, get, get]

/-- A reshape. -/
def Step.reshape (x : TRef sig Tx) (y : TRef sig Ty) (he : Tx.elt = Ty.elt) (hn : Tx.shape.ShapeCasts Ty.shape) :
    Step τ sig Val where
  op := TRef.reshape x y he hn
  out := y.ref
  ins := [x.ref]
  writes_eq := reshape_writes ..
  bufs_sub := reshape_bufs_sub ..
  fresh_eq := rfl
  Eqn W := get W y = fun i => cast (congrArg Val he) (shapeCast Ty.shape (get W x) hn i)
  sound V W hx h := by
    rw [reshape_result] at h
    rw [get, ← h]
    rw [hx x.ref (by simp), get]
    obtain ⟨x, rfl, _, _⟩ := x
    obtain ⟨y, rfl, _, _⟩ := y
    exact funext fun i => eqRec_eq_cast _ _

/-- An operation of a family of operands. -/
def Step.nary {n : Nat} (xs : Fin n → Ref sig .tc) (y : Ref sig .tc)
    (f : ((k : Fin n) → (xs k).ty.Contents Val) → y.ty.Contents Val)
    (hxs : ∀ k, (xs k).space ≠ .host ∧ (Proc.devRef .tc (xs k) : DevRef τ sig).isScoped = false)
    (hy : y.space ≠ .host ∧ (Proc.devRef .tc y : DevRef τ sig).isScoped = false) : Step τ sig Val where
  op := StableHlo.nary xs y f hxs hy
  out := y
  ins := (List.finRange n).map xs
  writes_eq := nary_writes ..
  bufs_sub := nary_bufs_sub ..
  fresh_eq := rfl
  Eqn W := W (Proc.devRef .tc y) = f fun k => W (Proc.devRef .tc (xs k))
  sound V W hx h := by
    rw [nary_result] at h
    rw [← h]
    exact congrArg f (funext fun k => hx (xs k) (List.mem_map.2 ⟨k, List.mem_finRange k, rfl⟩))

/-! The equations, as the simplifier reads them. -/

section
variable (W : Valuation τ sig Val)

/-- A constant's equation. -/
theorem nullary_eqn (y : TRef sig Ty) (v : Ty.Contents Val) :
    (Step.nullary (τ := τ) y v).Eqn W ↔ get W y = v := Iff.rfl

/-- The equation of an operation of one operand, -/
theorem unary_eqn (x : TRef sig Tx) (y : TRef sig Ty) (f : Tx.Contents Val → Ty.Contents Val) :
    (Step.unary (τ := τ) x y f).Eqn W ↔ get W y = f (get W x) := Iff.rfl

/-- of two, -/
theorem binary_eqn (a : TRef sig Ta) (b : TRef sig Tb) (y : TRef sig Ty)
    (f : Ta.Contents Val → Tb.Contents Val → Ty.Contents Val) :
    (Step.binary (τ := τ) a b y f).Eqn W ↔ get W y = f (get W a) (get W b) := Iff.rfl

/-- of three, -/
theorem ternary_eqn (c : TRef sig Tc) (a : TRef sig Ta) (b : TRef sig Tb) (y : TRef sig Ty)
    (f : Tc.Contents Val → Ta.Contents Val → Tb.Contents Val → Ty.Contents Val) :
    (Step.ternary (τ := τ) c a b y f).Eqn W ↔ get W y = f (get W c) (get W a) (get W b) := Iff.rfl

/-- of four, -/
theorem quaternary_eqn (a : TRef sig Ta) (b : TRef sig Tb) (c : TRef sig Tc) (e : TRef sig Te) (y : TRef sig Ty)
    (f : Ta.Contents Val → Tb.Contents Val → Tc.Contents Val → Te.Contents Val → Ty.Contents Val) :
    (Step.quaternary (τ := τ) a b c e y f).Eqn W ↔ get W y = f (get W a) (get W b) (get W c) (get W e) := Iff.rfl

/-- and of a change of shape. -/
theorem reshape_eqn {s t : Shape} {e : EltTy} (x : TRef sig ⟨s, e⟩) (y : TRef sig ⟨t, e⟩) (hn : s.ShapeCasts t) :
    (Step.reshape (τ := τ) (Val := Val) x y rfl hn).Eqn W ↔ get W y = shapeCast t (get W x) hn := Iff.rfl

end

end Builders

end Fsq.Ssa

end
-- ==== Proof.RefSteps.lean ====
/-
  The reference program as one straight line of steps: scale and squash the input, quantise each of the
  eight groups of 32 columns to 16 levels, join the groups, and put the straight-through result together.
-/
module

public import proofs.«01_k».proof.Proof.Ssa
public import proofs.«01_k».proof.ReferenceIdeal
public import proofs.«01_k».proof.Proof.Gen.ReferenceIdeal

@[expose] public section

noncomputable section

namespace Fsq.Ref

open Idealize.ShloMosaic Idealize.ShloMosaic.StableHlo Idealize.SL.Sem
open Cert.ReferenceIdeal Cert.ReferenceIdeal.Facts₀
open Fsq.Ssa (Step ops)

variable {F : FTy → Type} [FloatOps F]

/-- The steps of `linspace`: 16 equally spaced levels from `a` to `b`, the last being `b` itself. -/
def linspace (a b : TRef sig ⟨S_, .f32⟩) (φ : fn_linspace.Bufs) : List (Step τ sig (Elt F)) :=
  [.unary a φ.v0 id, .unary b φ.v1 id, .binary φ.v1 φ.v0 φ.v2 subf,
    .nullary φ.cst (constant S_ .f32 0x41700000#32), .binary φ.v2 φ.cst φ.v3 Host.divf,
    .nullary φ.v4 (sitofp .f32 (iotaInDim S15 32 0)), .nullary φ.cst_0 (constant S_ .f32 0x41700000#32),
    .unary φ.cst_0 φ.v5 (broadcastInDim S15 ![] bcast_S_S15), .binary φ.v4 φ.v5 φ.v6 Host.divf,
    .reshape φ.v0 φ.v7 rfl shapeCasts_S_S1, .nullary φ.cst_1 (constant S_ .f32 0x3F800000#32),
    .unary φ.cst_1 φ.v8 (broadcastInDim S15 ![] bcast_S_S15), .binary φ.v8 φ.v6 φ.v9 subf,
    .unary φ.v7 φ.v10 (broadcastInDim S15 ![0] bcast_S1_S15_0), .binary φ.v10 φ.v9 φ.v11 mulf,
    .reshape φ.v1 φ.v12 rfl shapeCasts_S_S1, .unary φ.v12 φ.v13 (broadcastInDim S15 ![0] bcast_S1_S15_0),
    .binary φ.v13 φ.v6 φ.v14 mulf, .binary φ.v11 φ.v14 φ.v15 addf,
    .unary φ.v1 φ.v16 (broadcastInDim S1 ![] bcast_S_S1),
    .binary φ.v15 φ.v16 φ.v17 (fun x y => concatenate S16 0 [⟨S15, x⟩, ⟨S1, y⟩] concatenates_S15_S1_S16_d0)]

/-- The least value along the last axis and where it first occurs. -/
abbrev least (x : (⟨S32768x32x16, .f32⟩ : BufTy).Contents (Elt F)) (y : (⟨S32768x32x16, .i32⟩ : BufTy).Contents (Elt F))
    (u : (⟨S_, .f32⟩ : BufTy).Contents (Elt F)) (v : (⟨S_, .i32⟩ : BufTy).Contents (Elt F)) (j : S32768x32.Idx) :
    F .f32 × BitVec 32 :=
  Host.argReduce reducer_argmin_f32_i32 x y u v reducesTo_S32768x32x16_S32768x32_d2 h_S_ j

/-- The steps of `argmin` over the last axis. -/
def argmin (x : TRef sig ⟨S32768x32x16, .f32⟩) (φ : fn_argmin.Bufs) : List (Step τ sig (Elt F)) :=
  [.nullary φ.v0 (iotaInDim S32768x32x16 32 2), .nullary φ.cst (constant S_ .f32 0x7F800000#32),
    .nullary φ.c (constantI S_ 32 0#32),
    .quaternary x φ.v0 φ.cst φ.c φ.v1_0 (fun x y u v j => (least x y u v j).1),
    .quaternary x φ.v0 φ.cst φ.c φ.v1_1 (fun x y u v j => (least x y u v j).2)]

/-- The buffers of one group of 32 columns, in the order they are written. -/
structure Grp where
  /-- the group's columns -/
  cols : TRef sig ⟨S32768x32, .f32⟩
  lo : TRef sig ⟨S_, .f32⟩
  hi : TRef sig ⟨S_, .f32⟩
  lin : fn_linspace.Bufs
  cols₁ : TRef sig ⟨S32768x32x1, .f32⟩
  levels₁ : TRef sig ⟨S1x1x16, .f32⟩
  cols₂ : TRef sig ⟨S32768x32x16, .f32⟩
  levels₂ : TRef sig ⟨S32768x32x16, .f32⟩
  diff : TRef sig ⟨S32768x32x16, .f32⟩
  dist : TRef sig ⟨S32768x32x16, .f32⟩
  arg : fn_argmin.Bufs
  zero : TRef sig ⟨S_, .i32⟩
  zeros : TRef sig ⟨S32768x32, .i32⟩
  neg : TRef sig ⟨S32768x32, .i1⟩
  sixteen : TRef sig ⟨S_, .i32⟩
  sixteens : TRef sig ⟨S32768x32, .i32⟩
  wrapped : TRef sig ⟨S32768x32, .i32⟩
  chosen : TRef sig ⟨S32768x32, .i32⟩
  chosen₁ : TRef sig ⟨S32768x32x1, .i32⟩
  /-- the levels looked up -/
  quant : TRef sig ⟨S32768x32, .f32⟩

/-- A group's first half: its columns' distances to the levels, and the nearest level's index. -/
def near (x : TRef sig ⟨S32768x256, .f32⟩) (g : Grp) (o : Nat) (h : S32768x256.Slices ![0, o] S32768x32) :
    List (Step τ sig (Elt F)) :=
  [.unary x g.cols (extractStridedSlice S32768x32 ![0, o] · h), .nullary g.lo (constant S_ .f32 0xBF700000#32),
    .nullary g.hi (constant S_ .f32 0x3F700000#32)] ++ linspace g.lo g.hi g.lin ++
  [.unary g.cols g.cols₁ (broadcastInDim S32768x32x1 ![0, 1] bcast_S32768x32_S32768x32x1_0_1),
    .unary g.lin.v17 g.levels₁ (broadcastInDim S1x1x16 ![2] bcast_S16_S1x1x16_2),
    .unary g.cols₁ g.cols₂ (broadcastInDim S32768x32x16 ![0, 1, 2] bcast_S32768x32x1_S32768x32x16_0_1_2),
    .unary g.levels₁ g.levels₂ (broadcastInDim S32768x32x16 ![0, 1, 2] bcast_S1x1x16_S32768x32x16_0_1_2),
    .binary g.cols₂ g.levels₂ g.diff subf, .unary g.diff g.dist Host.absf] ++ argmin g.dist g.arg

/-- A group's second half: the level at that index. -/
def look (g : Grp) : List (Step τ sig (Elt F)) :=
  [.nullary g.zero (constantI S_ 32 0#32), .unary g.zero g.zeros (broadcastInDim S32768x32 ![] bcast_S_S32768x32),
    .binary g.arg.v1_1 g.zeros g.neg (cmpi .slt), .nullary g.sixteen (constantI S_ 32 16#32),
    .unary g.sixteen g.sixteens (broadcastInDim S32768x32 ![] bcast_S_S32768x32),
    .binary g.arg.v1_1 g.sixteens g.wrapped addi, .ternary g.neg g.wrapped g.arg.v1_1 g.chosen select,
    .unary g.chosen g.chosen₁ (broadcastInDim S32768x32x1 ![0, 1] bcast_S32768x32_S32768x32x1_0_1),
    .binary g.lin.v17 g.chosen₁ g.quant (fun x i => Host.gather gather_S16_S32768x32x1_S32768x32_n_0_n_n_0_2_1 x i)]

/-- The buffers of columns 0 to 31. -/
def grp0 : Grp :=
  ⟨.of main_v7, .of main_cst_1, .of main_cst_2, main_call0, .of main_v9, .of main_v10, .of main_v11, .of main_v12,
    .of main_v13, .of main_v14, main_call1, .of main_c, .of main_v16, .of main_v17, .of main_c_3, .of main_v18, .of main_v19,
    .of main_v20, .of main_v21, .of main_v22⟩

/-- The buffers of columns 32 to 63. -/
def grp1 : Grp :=
  ⟨.of main_v23, .of main_cst_4, .of main_cst_5, main_call2, .of main_v25, .of main_v26, .of main_v27, .of main_v28,
    .of main_v29, .of main_v30, main_call3, .of main_c_6, .of main_v32, .of main_v33, .of main_c_7, .of main_v34, .of main_v35,
    .of main_v36, .of main_v37, .of main_v38⟩

/-- The buffers of columns 64 to 95. -/
def grp2 : Grp :=
  ⟨.of main_v39, .of main_cst_8, .of main_cst_9, main_call4, .of main_v41, .of main_v42, .of main_v43, .of main_v44,
    .of main_v45, .of main_v46, main_call5, .of main_c_10, .of main_v48, .of main_v49, .of main_c_11, .of main_v50, .of main_v51,
    .of main_v52, .of main_v53, .of main_v54⟩

/-- The buffers of columns 96 to 127. -/
def grp3 : Grp :=
  ⟨.of main_v55, .of main_cst_12, .of main_cst_13, main_call6, .of main_v57, .of main_v58, .of main_v59, .of main_v60,
    .of main_v61, .of main_v62, main_call7, .of main_c_14, .of main_v64, .of main_v65, .of main_c_15, .of main_v66, .of main_v67,
    .of main_v68, .of main_v69, .of main_v70⟩

/-- The buffers of columns 128 to 159. -/
def grp4 : Grp :=
  ⟨.of main_v71, .of main_cst_16, .of main_cst_17, main_call8, .of main_v73, .of main_v74, .of main_v75, .of main_v76,
    .of main_v77, .of main_v78, main_call9, .of main_c_18, .of main_v80, .of main_v81, .of main_c_19, .of main_v82, .of main_v83,
    .of main_v84, .of main_v85, .of main_v86⟩

/-- The buffers of columns 160 to 191. -/
def grp5 : Grp :=
  ⟨.of main_v87, .of main_cst_20, .of main_cst_21, main_call10, .of main_v89, .of main_v90, .of main_v91, .of main_v92,
    .of main_v93, .of main_v94, main_call11, .of main_c_22, .of main_v96, .of main_v97, .of main_c_23, .of main_v98, .of main_v99,
    .of main_v100, .of main_v101, .of main_v102⟩

/-- The buffers of columns 192 to 223. -/
def grp6 : Grp :=
  ⟨.of main_v103, .of main_cst_24, .of main_cst_25, main_call12, .of main_v105, .of main_v106, .of main_v107, .of main_v108,
    .of main_v109, .of main_v110, main_call13, .of main_c_26, .of main_v112, .of main_v113, .of main_c_27, .of main_v114, .of main_v115,
    .of main_v116, .of main_v117, .of main_v118⟩

/-- The buffers of columns 224 to 255. -/
def grp7 : Grp :=
  ⟨.of main_v119, .of main_cst_28, .of main_cst_29, main_call14, .of main_v121, .of main_v122, .of main_v123, .of main_v124,
    .of main_v125, .of main_v126, main_call15, .of main_c_30, .of main_v128, .of main_v129, .of main_c_31, .of main_v130, .of main_v131,
    .of main_v132, .of main_v133, .of main_v134⟩

/-- Before the groups: positions as rows, and the squashed input. -/
def pre : List (Step τ sig (Elt F)) :=
  [.unary (.of main_arg0) (.of main_v0 : TRef sig ⟨S32x1024x256, .f32⟩)
      ((transpose S32x1024x256 [0, 2, 1] · transposes_S32x256x1024_S32x1024x256_0_2_1) :
        (⟨S32x256x1024, .f32⟩ : BufTy).Contents (Elt F) → (⟨S32x1024x256, .f32⟩ : BufTy).Contents (Elt F)),
    .reshape (.of main_v0 : TRef sig ⟨S32x1024x256, .f32⟩) (.of main_v1 : TRef sig ⟨S32768x256, .f32⟩) rfl
      shapeCasts_S32x1024x256_S32768x256,
    .nullary (.of main_cst : TRef sig ⟨S_, .f32⟩) (constant S_ .f32 0x3F800000#32),
    .unary (.of main_cst : TRef sig ⟨S_, .f32⟩) (.of main_v2 : TRef sig ⟨S32768x256, .f32⟩)
      (broadcastInDim S32768x256 ![] bcast_S_S32768x256),
    .binary (.of main_v1 : TRef sig ⟨S32768x256, .f32⟩) (.of main_v2 : TRef sig ⟨S32768x256, .f32⟩)
      (.of main_v3 : TRef sig ⟨S32768x256, .f32⟩) Host.divf,
    .unary (.of main_v3 : TRef sig ⟨S32768x256, .f32⟩) (.of main_v4 : TRef sig ⟨S32768x256, .f32⟩) Host.tanh,
    .nullary (.of main_cst_0 : TRef sig ⟨S_, .f32⟩) (constant S_ .f32 0x3F800000#32),
    .unary (.of main_cst_0 : TRef sig ⟨S_, .f32⟩) (.of main_v5 : TRef sig ⟨S32768x256, .f32⟩)
      (broadcastInDim S32768x256 ![] bcast_S_S32768x256),
    .binary (.of main_v4 : TRef sig ⟨S32768x256, .f32⟩) (.of main_v5 : TRef sig ⟨S32768x256, .f32⟩)
      (.of main_v6 : TRef sig ⟨S32768x256, .f32⟩) mulf]

/-- Eight arrays of 32 columns side by side. -/
abbrev beside {α : Type} (u₀ u₁ u₂ u₃ u₄ u₅ u₆ u₇ : S32768x32.Idx → α) : S32768x256.Idx → α :=
  concatenate S32768x256 1 [⟨S32768x32, u₀⟩, ⟨S32768x32, u₁⟩, ⟨S32768x32, u₂⟩, ⟨S32768x32, u₃⟩, ⟨S32768x32, u₄⟩,
      ⟨S32768x32, u₅⟩, ⟨S32768x32, u₆⟩, ⟨S32768x32, u₇⟩]
    concatenates_S32768x32_S32768x32_S32768x32_S32768x32_S32768x32_S32768x32_S32768x32_S32768x32_S32768x256_d1

/-- After the groups: join them, restore the layouts, and add the rounding error to the input. -/
def post : List (Step τ sig (Elt F)) :=
  [.nary ![main_v22, main_v38, main_v54, main_v70, main_v86, main_v102, main_v118, main_v134] main_v135
      (fun u => beside (α := Elt F .f32) (u 0) (u 1) (u 2) (u 3) (u 4) (u 5) (u 6) (u 7)) (by decide) ⟨by decide, rfl⟩,
    .nary ![main_v15, main_v31, main_v47, main_v63, main_v79, main_v95, main_v111, main_v127] main_v136
      (fun u => beside (α := Elt F .i32) (u 0) (u 1) (u 2) (u 3) (u 4) (u 5) (u 6) (u 7)) (by decide) ⟨by decide, rfl⟩,
    .reshape (.of main_v135 : TRef sig ⟨S32768x256, .f32⟩) (.of main_v137 : TRef sig ⟨S32x1024x256, .f32⟩) rfl
      shapeCasts_S32768x256_S32x1024x256,
    .unary (.of main_v137 : TRef sig ⟨S32x1024x256, .f32⟩) (.of main_v138 : TRef sig ⟨S32x256x1024, .f32⟩)
      ((transpose S32x256x1024 [0, 2, 1] · transposes_S32x1024x256_S32x256x1024_0_2_1) :
        (⟨S32x1024x256, .f32⟩ : BufTy).Contents (Elt F) → (⟨S32x256x1024, .f32⟩ : BufTy).Contents (Elt F)),
    .reshape (.of main_v136 : TRef sig ⟨S32768x256, .i32⟩) (.of main_v139 : TRef sig ⟨S32x1024x256, .i32⟩) rfl
      shapeCasts_S32768x256_S32x1024x256,
    .binary (.of main_v138 : TRef sig ⟨S32x256x1024, .f32⟩) (.of main_arg0 : TRef sig ⟨S32x256x1024, .f32⟩)
      (.of main_v140 : TRef sig ⟨S32x256x1024, .f32⟩) subf,
    .binary (.of main_arg0 : TRef sig ⟨S32x256x1024, .f32⟩) (.of main_v140 : TRef sig ⟨S32x256x1024, .f32⟩)
      (.of main_v141 : TRef sig ⟨S32x256x1024, .f32⟩) addf,
    .nullary (.of main_cst_32 : TRef sig ⟨S_, .f32⟩) (constant S_ .f32 0x00000000#32)]

/-- The squashed input. -/
abbrev squashed : TRef sig ⟨S32768x256, .f32⟩ := .of main_v6

/-- The steps of the program's first window. -/
def part0 : List (Step τ sig (Elt F)) :=
  pre ++ near squashed grp0 0 slices_S32768x256_S32768x32_0_0 ++ look grp0 ++
    near squashed grp1 32 slices_S32768x256_S32768x32_0_32 ++ look grp1 ++
    near squashed grp2 64 slices_S32768x256_S32768x32_0_64

/-- The steps of its second window. -/
def part1 : List (Step τ sig (Elt F)) :=
  look grp2 ++ near squashed grp3 96 slices_S32768x256_S32768x32_0_96 ++ look grp3 ++
    near squashed grp4 128 slices_S32768x256_S32768x32_0_128 ++ look grp4 ++
    near squashed grp5 160 slices_S32768x256_S32768x32_0_160

/-- The steps of its third window. -/
def part2 : List (Step τ sig (Elt F)) :=
  look grp5 ++ near squashed grp6 192 slices_S32768x256_S32768x32_0_192 ++ look grp6 ++
    near squashed grp7 224 slices_S32768x256_S32768x32_0_224 ++ look grp7 ++ post

/-- The whole program's steps. -/
def steps : List (Step τ sig (Elt F)) := part0 ++ part1 ++ part2

/-- The program's first window is the line of those steps, -/
theorem part0_eq (d : Dev nD) : main_part0 (F := F) d = seq (ops part0) := rfl

/-- and so is its second, -/
theorem part1_eq (d : Dev nD) : main_part1 (F := F) d = seq (ops part1) := rfl

/-- and its third. -/
theorem part2_eq (d : Dev nD) : main_part2 (F := F) d = seq (ops part2) := rfl

/-- The program is the line of its steps. -/
theorem main_eq (d : Dev nD) : main (F := F) d = seq (ops steps) := by
  rw [steps, Ssa.ops_append, Ssa.ops_append, seq_append, seq_append, ← part0_eq d, ← part1_eq d, ← part2_eq d,
    bind_assoc]
  rfl

end Fsq.Ref

end
-- ==== Proof.Least.lean ====
/-
  The reference's `argmin`: over a list of (value, index) pairs its reducer keeps the least value and, of
  equal values, the least index; so along the last axis it gives the first place of the least value.
-/
module

public import proofs.«01_k».proof.Proof.RefSteps
public import Idealize.ShloMosaic.Lib.Pointwise
public import Mathlib.Data.Prod.Lex

@[expose] public section

noncomputable section

namespace Fsq.Ref

open Idealize.ShloMosaic Cert.ReferenceIdeal Cert.ReferenceIdeal.Facts₀

/-- A pair's place in the order the reducer takes the least of: its value first, then its index. -/
def key (p : Ideal .f32 × BitVec 32) : EReal ×ₗ ℤ := toLex (p.1, p.2.toInt)

/-- The reducer of two pairs is the one that comes first. -/
theorem reducer_eq (a b : Ideal .f32 × BitVec 32) :
    reducer_argmin_f32_i32 (F := Ideal) a b = if key a < key b then a else b := by
  obtain ⟨a, i⟩ := a
  obtain ⟨b, j⟩ := b
  simp only [reducer_argmin_f32_i32, key, Prod.Lex.toLex_lt_toLex, Ideal.cmpf_def, Ideal.cmp, IntOp.cmpi, IntOp.ori,
    IntOp.andi, Scalar.select]
  rcases lt_trichotomy (α := EReal) a b with h | h | h
  · simp [h, h.ne]
  · subst h
    by_cases hij : i.toInt < j.toInt <;> simp [hij, BitVec.slt]
  · simp [h.not_gt, h.ne']

/-- Folding the reducer keeps one of the pairs, and none comes before it. -/
theorem fold_least (l : List (Ideal .f32 × BitVec 32)) : ∀ a : Ideal .f32 × BitVec 32,
    l.foldl (reducer_argmin_f32_i32 (F := Ideal)) a ∈ a :: l ∧
      ∀ p ∈ a :: l, key (l.foldl (reducer_argmin_f32_i32 (F := Ideal)) a) ≤ key p := by
  induction l with
  | nil => intro a; simp
  | cons b l ih =>
    intro a
    obtain ⟨hm, hl⟩ := ih (reducer_argmin_f32_i32 (F := Ideal) a b)
    have h0 := hl _ List.mem_cons_self
    have hab : key (reducer_argmin_f32_i32 (F := Ideal) a b) ≤ key a ∧
        key (reducer_argmin_f32_i32 (F := Ideal) a b) ≤ key b := by
      rw [reducer_eq]; split_ifs with h
      · exact ⟨le_rfl, h.le⟩
      · exact ⟨not_lt.1 h, le_rfl⟩
    have hin : reducer_argmin_f32_i32 (F := Ideal) a b = a ∨ reducer_argmin_f32_i32 (F := Ideal) a b = b := by
      rw [reducer_eq]; split_ifs <;> simp
    rw [List.foldl_cons]
    refine ⟨?_, fun p hp => ?_⟩
    · rcases List.mem_cons.1 hm with h | h
      · rw [h]; rcases hin with h' | h' <;> rw [h'] <;> simp
      · exact List.mem_cons_of_mem _ (List.mem_cons_of_mem _ h)
    · rcases List.mem_cons.1 hp with rfl | hp
      · exact h0.trans hab.1
      · rcases List.mem_cons.1 hp with rfl | hp
        · exact h0.trans hab.2
        · exact hl p (List.mem_cons_of_mem _ hp)

variable {a b w : ℕ}

/-- The pairs `argmin` folds over for the entry `(r, c)`: those along the last axis. -/
theorem mem_fiber (h : (⟨3, ![a, b, w]⟩ : Shape).ReducesTo [2] ⟨2, ![a, b]⟩) (x : (⟨3, ![a, b, w]⟩ : Shape).Idx → Ideal .f32)
    (y : (⟨3, ![a, b, w]⟩ : Shape).Idx → BitVec 32) (r : Fin a) (c : Fin b) (p : Ideal .f32 × BitVec 32) :
    p ∈ Host.argReduceFiber x y h (ix2 r c) ↔ ∃ k : Fin w, p = (x (ix3 r c k), y (ix3 r c k)) := by
  simp only [Host.argReduceFiber, List.mem_map, List.mem_filter, List.mem_finRange, true_and, decide_eq_true_eq]
  constructor
  · rintro ⟨m, hm, rfl⟩
    obtain ⟨k, hk⟩ := (Shape.ReducesTo.fiber_r3_a2 h _ _).1 hm
    exact ⟨k, by rw [← hk]; rfl⟩
  · rintro ⟨k, rfl⟩
    refine ⟨Shape.rowMajor _ (ix3 r c k), ?_, by rw [Equiv.symm_apply_apply]⟩
    rw [Equiv.symm_apply_apply]
    exact (Shape.ReducesTo.fiber_r3_a2 h _ _).2 ⟨k, rfl⟩

/-- Where the `n`-th entry along the last axis is the first least one, `argmin` gives `n`. -/
theorem argmin_eq (h : (⟨3, ![a, b, w]⟩ : Shape).ReducesTo [2] ⟨2, ![a, b]⟩) {z : Shape} (hz : 0 < z.numel)
    (x : (⟨3, ![a, b, w]⟩ : Shape).Idx → Ideal .f32) (y : (⟨3, ![a, b, w]⟩ : Shape).Idx → BitVec 32)
    (u : z.Idx → Ideal .f32) (v : z.Idx → BitVec 32) (r : Fin a) (c : Fin b)
    (hy : ∀ k, (y (ix3 r c k)).toInt = k.val) (hu : ∀ i, u i = (⊤ : EReal))
    (n : Fin w) (hn : x (ix3 r c n) < (⊤ : EReal))
    (h₁ : ∀ k < n, x (ix3 r c n) < x (ix3 r c k)) (h₂ : ∀ k, x (ix3 r c n) ≤ x (ix3 r c k)) :
    ((Host.argReduce (reducer_argmin_f32_i32 (F := Ideal)) x y u v h hz (ix2 r c)).2).toInt = n.val := by
  rw [Ideal.argReduce_eq_reduce2, Host.reduce2_eq_foldl_fiber]
  obtain ⟨hm, hl⟩ := fold_least (Host.argReduceFiber x y h (ix2 r c)) (u (Shape.Idx.first hz), v (Shape.Idx.first hz))
  generalize List.foldl _ _ _ = p at hm hl ⊢
  have hp := hl _ (List.mem_cons_of_mem _ ((mem_fiber h x y r c _).2 ⟨n, rfl⟩))
  have hlt : p.1 < (⊤ : EReal) := by
    rcases Prod.Lex.toLex_le_toLex.1 hp with e | e
    · exact e.trans hn
    · exact e.1.trans_lt hn
  rcases List.mem_cons.1 hm with rfl | hm
  · exact absurd hlt (by simp [hu])
  · obtain ⟨k, rfl⟩ := (mem_fiber h x y r c _).1 hm
    rcases Prod.Lex.toLex_le_toLex.1 hp with e | ⟨e, hi⟩
    · exact absurd e (h₂ k).not_gt
    · have hi : (y (ix3 r c k)).toInt ≤ (y (ix3 r c n)).toInt := hi
      rw [hy, hy] at hi
      show (y (ix3 r c k)).toInt = _
      rw [hy]
      rcases (Fin.le_def.2 (by exact_mod_cast hi) : k ≤ n).lt_or_eq with hk | rfl
      · exact absurd e (h₁ k hk).ne'
      · rfl

end Fsq.Ref

end
-- ==== Proof.Group.lean ====
/-
  What one group of 32 columns of the reference computes: its 16 levels, for each entry the index of the
  nearest, and the level at that index.
-/
module

public import proofs.«01_k».proof.Proof.Least
public import proofs.«01_k».proof.Proof.Words

@[expose] public section

noncomputable section

namespace Fsq.Ref

open Idealize.ShloMosaic Idealize.ShloMosaic.StableHlo
open Cert.ReferenceIdeal Cert.ReferenceIdeal.Facts₀
open Fsq.Ssa

variable {W : Valuation τ sig (Elt Ideal)}

/-- `linspace` from -15/16 to 15/16 holds the 16 levels. -/
theorem linspace_eq {a b : TRef sig ⟨S_, .f32⟩} {φ : fn_linspace.Bufs}
    (hW : ∀ s ∈ linspace (F := Ideal) a b φ, s.Eqn W) (ha : get W a = constant (F := Ideal) S_ .f32 0xBF700000#32)
    (hb : get W b = constant (F := Ideal) S_ .f32 0x3F700000#32) (k : Fin 16) :
    get W φ.v17 (ix1 k) = (level k : EReal) := by
  simp only [linspace, List.forall_mem_cons, nullary_eqn, unary_eqn, binary_eqn, reshape_eqn, ha, hb] at hW
  obtain ⟨h0, h1, h2, h3, h4, h5, h6, h7, h8, h9, h10, h11, h12, h13, h14, h15, h16, h17, h18, h19, h20, -⟩ := hW
  rw [h20, h18, h19, h17, h16, h15, h14, h13, h12, h11, h10, h9, h8, h7, h6, h5, h1, h0]
  pointwise
  have hl : (id (constant (F := Ideal) S_ .f32 0xBF700000#32)) ix0 = ((-(15 / 16) : ℝ) : EReal) := bits_low_level
  have ht : (id (constant (F := Ideal) S_ .f32 0x3F700000#32)) ix0 = ((15 / 16 : ℝ) : EReal) := bits_top_level
  rw [hl, ht, bits_fifteen]
  split_ifs with hk
  · rw [sitofp_word (by omega), Ideal.div_coe (by norm_num), ← EReal.coe_mul, ← EReal.coe_one, ← EReal.coe_sub,
      ← EReal.coe_mul, ← EReal.coe_mul, ← EReal.coe_add, level]
    congr 1; ring
  · obtain rfl : k = 15 := Fin.ext (by have := k.isLt; show k.val = 15; omega)
    rw [level]; norm_num

/-- Where the group's column `c` of row `r` holds the real `y` of [-1, 1], the index found there is that of the
    level nearest `y`, and the value looked up is that level. -/
theorem group_eq {x : TRef sig ⟨S32768x256, .f32⟩} {g : Grp} {o : Nat} {h : S32768x256.Slices ![0, o] S32768x32}
    (hW : ∀ s ∈ near (F := Ideal) x g o h ++ look g, s.Eqn W) (r : Fin 32768) (c : Fin 32) (ho : o + c.val < 256)
    {y : ℝ} (hx : get W x (ix2 r ⟨o + c.val, ho⟩) = (y : EReal)) (h₁ : -1 ≤ y) (h₂ : y ≤ 1) :
    get W g.arg.v1_1 (ix2 r c) = BitVec.ofNat 32 (nearest y) ∧
      get W g.quant (ix2 r c) = (level (nearest y) : EReal) := by
  simp only [near, look, argmin, List.cons_append, List.nil_append, List.append_assoc, List.forall_mem_cons,
    List.forall_mem_append, nullary_eqn, unary_eqn, binary_eqn, ternary_eqn, quaternary_eqn] at hW
  obtain ⟨hcols, hlo, hhi, hlin, hcols₁, hlev₁, hcols₂, hlev₂, hdiff, hdist, hiota, htop, -, -, harg,
    hzero, hzeros, hneg, -, -, -, hsel, hsel₁, hq, -⟩ := hW
  have hlev := linspace_eq hlin hlo hhi
  have hd : ∀ k : Fin 16, get W g.dist (ix3 r c k) = ((|y - level k| : ℝ) : EReal) := by
    intro k
    rw [hdist, hdiff, hcols₂, hlev₂, hcols₁, hlev₁, hcols]
    pointwise
    rw [hx, hlev, ← EReal.coe_sub]
    show max ((y - level k : ℝ) : EReal) (-((y - level k : ℝ) : EReal)) = _
    rw [← EReal.coe_neg, abs_eq_max_neg]
    exact (EReal.coe_strictMono.monotone.map_max).symm
  have hi : (get W g.arg.v1_1 (ix2 r c)).toInt = nearest y := by
    rw [harg]
    refine argmin_eq reducesTo_S32768x32x16_S32768x32_d2 h_S_ _ _ _ _ r c (fun k => ?_) (fun i => ?_)
      ⟨nearest y, nearest_lt y⟩ ?_ (fun k hk => ?_) (fun k => ?_)
    · rw [hiota]; exact toInt_word k.isLt
    · rw [htop]; exact bits_inf
    · rw [hd]; exact EReal.coe_lt_top _
    · rw [hd, hd]; exact EReal.coe_lt_coe_iff.2 (nearest_first h₁ h₂ hk)
    · rw [hd, hd]; exact EReal.coe_le_coe_iff.2 (nearest_least h₁ h₂ k)
  have hw : get W g.arg.v1_1 (ix2 r c) = BitVec.ofNat 32 (nearest y) :=
    BitVec.eq_of_toInt_eq (hi.trans (toInt_word (nearest_lt y)).symm)
  refine ⟨hw, ?_⟩
  have hs : get W g.chosen₁ (ix3 r c 0) = BitVec.ofNat 32 (nearest y) := by
    rw [hsel₁, hsel, hneg, hzeros, hzero]
    pointwise
    rw [hw]
    have hn : IntOp.cmpi .slt (BitVec.ofNat 32 (nearest y)) 0#32 = 0#1 := by
      have := toInt_word (nearest_lt y)
      simp only [IntOp.cmpi, BitVec.slt, this]
      exact congrArg BitVec.ofBool (decide_eq_false (by show ¬ ((nearest y : ℤ) < 0); omega))
    rw [hn]; rfl
  have ht : ValueIdx.takeIdx (ix2 r c) = ix3 r c 0 := by
    funext a
    match a with
    | ⟨0, _⟩ => rfl
    | ⟨1, _⟩ => rfl
    | ⟨2, _⟩ => rfl
  have e := ValueIdx.gather_take_apply (by norm_num) gather_S16_S32768x32x1_S32768x32_n_0_n_n_0_2_1_wf
    (get W g.lin.v17) (get W g.chosen₁) (ix2 r c)
  rw [hq]
  refine Eq.trans e ?_
  refine Eq.trans (congrArg (get W g.lin.v17) ?_) (hlev ⟨nearest y, nearest_lt y⟩)
  funext a
  obtain rfl : a = 0 := Subsingleton.elim _ _
  refine Fin.ext ?_
  show min (get W g.chosen₁ (ValueIdx.takeIdx (ix2 r c))).toInt.toNat (16 - 1) = nearest y
  rw [ht, hs, toInt_word (nearest_lt y)]
  have := nearest_lt y
  omega

end Fsq.Ref

end
-- ==== Proof.RefValue.lean ====
/-
  What the reference computes: of the real input z, the level nearest tanh z and that level's index.
-/
module

public import proofs.«01_k».proof.Proof.Group
public import Idealize.ShloMosaic.Lib.Pipeline.Value

@[expose] public section

noncomputable section

namespace Fsq.Ref

open Idealize.ShloMosaic Idealize.ShloMosaic.StableHlo
open Cert.ReferenceIdeal Cert.ReferenceIdeal.Facts₀
open Fsq.Ssa

variable {W : Valuation τ sig (Elt Ideal)}

/-- The row of the flattened array that holds position `t` of batch `b`. -/
def row (b : Fin 32) (t : Fin 1024) : Fin 32768 := ⟨b.val * 1024 + t.val, by omega⟩

/-- A flattened array read at `row b t` is the array at `(b, t)`. -/
theorem flat_apply {α : Type} (x : S32x1024x256.Idx → α) (h : S32x1024x256.ShapeCasts S32768x256) (b : Fin 32)
    (t : Fin 1024) (d : Fin 256) : shapeCast S32768x256 x h (ix2 (row b t) d) = x (ix3 b t d) := by
  refine shapeCast_apply _ _ _ _ ?_
  rw [Shape.rowMajor_val_two, Shape.rowMajor_val_three]
  show (b.val * 1024 + t.val) * 256 + d.val = _
  rfl

/-- An array restored from its flattened form, read at `(b, t)`, is the flattened one at `row b t`. -/
theorem unflat_apply {α : Type} (x : S32768x256.Idx → α) (h : S32768x256.ShapeCasts S32x1024x256) (b : Fin 32)
    (t : Fin 1024) (d : Fin 256) : shapeCast S32x1024x256 x h (ix3 b t d) = x (ix2 (row b t) d) := by
  refine shapeCast_apply _ _ _ _ ?_
  rw [Shape.rowMajor_val_two, Shape.rowMajor_val_three]
  rfl

/-- The squashed array holds tanh of the input, its last two axes exchanged and its first two joined. -/
theorem squashed_eq (hW : ∀ s ∈ pre (F := Ideal), s.Eqn W) (b : Fin 32) (t : Fin 1024) (d : Fin 256) {z : ℝ}
    (hz : get W (.of main_arg0 : TRef sig ⟨S32x256x1024, .f32⟩) (ix3 b d t) = (z : EReal)) :
    get W squashed (ix2 (row b t) d) = (Real.tanh z : EReal) := by
  simp only [pre, List.forall_mem_cons, nullary_eqn, unary_eqn, binary_eqn, reshape_eqn] at hW
  obtain ⟨h0, h1, hc, h2, h3, h4, hc', h5, h6, -⟩ := hW
  have hx : get W (.of main_v1 : TRef sig ⟨S32768x256, .f32⟩) (ix2 (row b t) d) = (z : EReal) := by
    rw [h1, flat_apply, h0]
    pointwise
    exact hz
  rw [h6, h5, hc', h4, h3, h2, hc]
  pointwise
  rw [hx]
  rw [← EReal.coe_one, Ideal.div_coe one_ne_zero, div_one, EReal.coe_one, mul_one, Ideal.tanh_coe]

/-- The eight groups of columns. -/
def grps : Fin 8 → Grp := ![grp0, grp1, grp2, grp3, grp4, grp5, grp6, grp7]

/-- Every operation of every group is among the program's. -/
theorem grps_eqn (hW : ∀ s ∈ steps (F := Ideal), s.Eqn W) (i : Fin 8) :
    ∃ h, ∀ s ∈ near (F := Ideal) squashed (grps i) (32 * i.val) h ++ look (grps i), s.Eqn W := by
  simp only [steps, part0, part1, part2, List.forall_mem_append] at hW
  obtain ⟨⟨⟨⟨⟨⟨⟨-, n0⟩, l0⟩, n1⟩, l1⟩, n2⟩, ⟨⟨⟨⟨⟨l2, n3⟩, l3⟩, n4⟩, l4⟩, n5⟩⟩, ⟨⟨⟨⟨⟨l5, n6⟩, l6⟩, n7⟩, l7⟩, -⟩⟩ := hW
  simp only [List.forall_mem_append]
  exact match i with
    | 0 => ⟨slices_S32768x256_S32768x32_0_0, n0, l0⟩
    | 1 => ⟨slices_S32768x256_S32768x32_0_32, n1, l1⟩
    | 2 => ⟨slices_S32768x256_S32768x32_0_64, n2, l2⟩
    | 3 => ⟨slices_S32768x256_S32768x32_0_96, n3, l3⟩
    | 4 => ⟨slices_S32768x256_S32768x32_0_128, n4, l4⟩
    | 5 => ⟨slices_S32768x256_S32768x32_0_160, n5, l5⟩
    | 6 => ⟨slices_S32768x256_S32768x32_0_192, n6, l6⟩
    | 7 => ⟨slices_S32768x256_S32768x32_0_224, n7, l7⟩

/-- Eight arrays of 32 columns side by side: column `d` is column `d % 32` of array `d / 32`. -/
theorem beside_apply {α : Type} (f : Fin 8 → S32768x32.Idx → α)
    (h : Shape.Concatenates ((List.ofFn fun i => (⟨S32768x32, f i⟩ : (s : Shape) × (s.Idx → α))).map (·.1))
      S32768x256 1) (r : Fin 32768) (d : Fin 256) :
    concatenate S32768x256 1 (List.ofFn fun i => ⟨S32768x32, f i⟩) h (ix2 r d) =
      f ⟨d.val / 32, by omega⟩ (ix2 r ⟨d.val % 32, by omega⟩) := by
  refine concatenate_ofFn_apply 1 f h rfl 32 rfl _ _ rfl _ rfl fun a ha => ?_
  match a with
  | ⟨0, _⟩ => rfl
  | ⟨1, _⟩ => exact absurd rfl ha

/-- Where the input is the real z, the reference's first result is the level nearest tanh z, its second that level's
    index; and its third result is 0. -/
theorem value (hW : ∀ s ∈ steps (F := Ideal), s.Eqn W) :
    (∀ (b : Fin 32) (t : Fin 1024) (d : Fin 256) (z : ℝ),
      get W (.of main_arg0 : TRef sig ⟨S32x256x1024, .f32⟩) (ix3 b d t) = (z : EReal) →
      get W (.of main_v141 : TRef sig ⟨S32x256x1024, .f32⟩) (ix3 b d t) = (level (nearest (Real.tanh z)) : EReal) ∧
      get W (.of main_v139 : TRef sig ⟨S32x1024x256, .i32⟩) (ix3 b t d) = BitVec.ofNat 32 (nearest (Real.tanh z))) ∧
    get W (.of main_cst_32 : TRef sig ⟨S_, .f32⟩) = constant (F := Ideal) S_ .f32 0x00000000#32 := by
  have hg := grps_eqn hW
  have hpre : ∀ s ∈ pre (F := Ideal), s.Eqn W := fun s hs => hW s (by simp [steps, part0, hs])
  have hpost : ∀ s ∈ post (F := Ideal), s.Eqn W := fun s hs => hW s (by simp [steps, part2, hs])
  simp only [post, List.forall_mem_cons, nullary_eqn, unary_eqn, binary_eqn, reshape_eqn] at hpost
  obtain ⟨hq, hi, h137, h138, h139, h140, h141, hc, -⟩ := hpost
  refine ⟨fun b t d z hz => ?_, hc⟩
  have hy := squashed_eq hpre b t d hz
  obtain ⟨h, hgi⟩ := hg ⟨d.val / 32, by omega⟩
  have hd : 32 * (d.val / 32) + d.val % 32 = d.val := by omega
  have hv := group_eq hgi (row b t) ⟨d.val % 32, by omega⟩ (by show 32 * (d.val / 32) + d.val % 32 < 256; omega)
    (y := Real.tanh z) (by simpa only [hd] using hy) (Real.neg_one_lt_tanh z).le (Real.tanh_lt_one z).le
  have hq' : get W (.of main_v135 : TRef sig ⟨S32768x256, .f32⟩) (ix2 (row b t) d) =
      (level (nearest (Real.tanh z)) : EReal) :=
    ((congrFun hq _).trans (beside_apply (fun i => get W (grps i).quant) _ _ _)).trans hv.2
  have hi' : get W (.of main_v136 : TRef sig ⟨S32768x256, .i32⟩) (ix2 (row b t) d) =
      BitVec.ofNat 32 (nearest (Real.tanh z)) :=
    ((congrFun hi _).trans (beside_apply (fun i => get W (grps i).arg.v1_1) _ _ _)).trans hv.1
  constructor
  · rw [h141, h140, h138, h137]
    pointwise
    rw [hz]
    refine (congrArg (fun q : EReal => (z : EReal) + (q - z)) hq').trans ?_
    rw [← EReal.coe_sub, ← EReal.coe_add]
    congr 1; ring
  · rw [h139, unflat_apply, hi']

end Fsq.Ref

end
-- ==== Proof.RefRun.lean ====
/-
  The reference's run: it ends, leaves its argument as it was, and every one of its operations' equations
  holds of what the buffers hold at the end.
-/
module

public import proofs.«01_k».proof.Proof.RefSteps
public import Idealize.ShloMosaic.PureOps.Ideal
public import Idealize.ShloMosaic.Lib.Quiescent

@[expose] public section

noncomputable section

namespace Fsq.Ref

open Idealize.ShloMosaic Idealize.ShloMosaic.StableHlo Idealize.SL.Sem
open Cert.ReferenceIdeal

/-- Every buffer is written once, in the order of its index, from buffers written before. -/
theorem rising : Ssa.rising 1 (Ssa.ranks (steps (F := Ideal))) = true := by decide +kernel

/-- The contents the program ends with satisfy each operation's equation, and the argument is kept. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, ∃ W : Valuation τ sig (Elt Ideal), (∀ s ∈ steps (F := Ideal), s.Eqn W) ∧
        W (Proc.devRef .tc main_arg0) = m ((c.tc : Thread nD τ).loc main_arg0) ∧
        ∀ b : Ref sig .tc, r.2.mem ((c.tc : Thread nD τ).loc b) = W (Proc.devRef .tc b)) ∧
      r.2.sem = fun _ => 0 := by
  refine (θ_run _ _ _).monotone (fun r h => ⟨fun c => ⟨_, Ssa.eqns steps 1 _ rising,
    Ssa.kept steps 1 _ main_arg0 rising (by decide), h c⟩, sem_eq_zero_of_no_sems (by decide) r.2⟩)
    (run_seq (by decide) (by decide) defs main (fun _ => Ssa.ops steps) main_eq (fun _ => ?_) m ρ (fun _ => ?_))
  · refine List.forall_iff_forall_mem.2 fun op hop => ?_
    obtain ⟨s, _, rfl⟩ := List.mem_map.1 hop
    exact s.bufs_sub
  · intro op hop
    obtain ⟨s, _, rfl⟩ := List.mem_map.1 hop
    exact s.fresh_eq

end Fsq.Ref

end
-- ==== Proof.Finite.lean ====
/-
  The precondition `finite`: every element of the input is a real number.
-/
module

public import proofs.«01_k».proof.Proof.Words
public import proofs.«01_k».proof.Pre_finite
public import Idealize.ShloMosaic.Lib.ReduceAll
public import Idealize.ShloMosaic.Lib.Pointwise

@[expose] public section

noncomputable section

namespace Fsq

open Idealize.ShloMosaic
open Cert.Pre_finite

/-- What the precondition's operations ask of their shapes holds. -/
instance finite_facts : Cert.Pre_finite.Facts where
  bcast_S_S32x256x1024 := by decide
  reducesTo_S32x256x1024_S_d0_1_2 := by decide
  h_S_ := by decide

/-- Where `finite` answers yes, every element is a real number. -/
theorem real_of_finite {x : FVec Ideal S32x256x1024 .f32} (h : fn x = fun _ => 1#1) (i : S32x256x1024.Idx) :
    ∃ z : ℝ, x i = (z : EReal) := by
  have hi := Host.reduce_andi_all _ _ _ _ _ (congrFun h ix0) i
  revert hi
  pointwise
  rw [bits_inf]
  intro hi
  have hlt : max (x i) (-(x i)) < ⊤ := by
    by_contra hn
    have hi' := hi.symm.trans (congrArg BitVec.ofBool (decide_eq_false hn))
    exact absurd hi' (by decide)
  have h₁ := (max_lt_iff.1 hlt).1
  have h₂ := (max_lt_iff.1 hlt).2
  exact ⟨(x i).toReal, (EReal.coe_toReal h₁.ne fun e => by rw [e] at h₂; exact h₂.ne EReal.neg_bot).symm⟩

end Fsq

end
-- ==== Proof.Equation.lean ====
/-
  The equation: from equal inputs of real numbers the kernel's result arrays are the reference's.
-/
module

public import proofs.«01_k».proof.Proof.KernelArray
public import proofs.«01_k».proof.Proof.RefValue
public import proofs.«01_k».proof.Proof.RefRun
public import proofs.«01_k».proof.Proof.Finite

@[expose] public section

noncomputable section

namespace Fsq

open Idealize.ShloMosaic Idealize.ShloMosaic.StableHlo Idealize.SL.Sem

/-- An index of rank 3 is the triple of its coordinates. -/
theorem eq_triple {a b c : Nat} (i : (⟨3, ![a, b, c]⟩ : Shape).Idx) : i = ix3 (i 0) (i 1) (i 2) := by
  funext k
  match k with
  | ⟨0, _⟩ => rfl
  | ⟨1, _⟩ => rfl
  | ⟨2, _⟩ => rfl

/-- From equal inputs of real numbers, what the reference's operations leave is what the kernel's arrays hold. -/
theorem equation
    {m : (ℓ : Loc Cert.KernelIdeal.nD Cert.KernelIdeal.τ Cert.KernelIdeal.sig) → Buf (Elt Ideal) ℓ}
    {W : Valuation Cert.ReferenceIdeal.τ Cert.ReferenceIdeal.sig (Elt Ideal)} (c : Dev Cert.KernelIdeal.nD)
    (hpre : Cert.Pre_finite.fn (F := Ideal) (m (c.tc.loc Cert.KernelIdeal.main_arg0)) = fun _ => 1#1)
    (hW : ∀ s ∈ Ref.steps (F := Ideal), s.Eqn W)
    (harg : W (Proc.devRef .tc Cert.ReferenceIdeal.main_arg0) = m (c.tc.loc Cert.KernelIdeal.main_arg0)) :
    W (Proc.devRef .tc Cert.ReferenceIdeal.main_v141) =
        (Cert.KernelIdeal.Gen.dats m 0 c).arrAt 1 Cert.KernelIdeal.cfg0.N ∧
      W (Proc.devRef .tc Cert.ReferenceIdeal.main_v139) =
        (Cert.KernelIdeal.Gen.dats m 0 c).arrAt 2 Cert.KernelIdeal.cfg0.N ∧
      W (Proc.devRef .tc Cert.ReferenceIdeal.main_cst_32) =
        constant (F := Ideal) Cert.KernelIdeal.S_ .f32 0x00000000#32 := by
  obtain ⟨hv, hc⟩ := Ref.value hW
  refine ⟨funext fun i => ?_, funext fun i => ?_, hc⟩
  · obtain ⟨z, hz⟩ := real_of_finite hpre i
    rw [Kernel.level_array m c i z hz]
    have e := (hv (i 0) (i 2) (i 1) z ((congrFun harg _).trans ((congrArg _ (eq_triple i).symm).trans hz))).1
    exact (congrArg _ (eq_triple i)).trans e
  · obtain ⟨z, hz⟩ := real_of_finite hpre (Kernel.swap i)
    rw [Kernel.index_array m c i z hz]
    have e := (hv (i 0) (i 1) (i 2) z ((congrFun harg _).trans hz)).2
    exact (congrArg _ (eq_triple i)).trans e

end Fsq

end
-- ==== Proof.lean ====
/-
  The proof of `Cert.Claim`: the programs run and leave their argument and their counters as they were, and from
  equal inputs of real numbers the kernel and the reference end with equal results.
-/
module

public import proofs.«01_k».proof.Defs
public import proofs.«01_k».proof.Proof.Gen.Kernel.Frame
public import proofs.«01_k».proof.Proof.Equation

@[expose] public section

noncomputable section

namespace Cert.Proof

open Idealize.ShloMosaic Idealize.SL.Sem

/-- The reference runs, keeps its argument, and leaves every counter at zero. -/
theorem reference_frame : quiescent_ReferenceIdeal := fun m g _ =>
  (θ_run _ _ _).mono (fun _ h => ⟨fun c => by
    obtain ⟨W, -, ha, hb⟩ := h.1 c
    exact (hb _).trans ha, h.2⟩) (Fsq.Ref.run m g)

/-- From equal inputs of real numbers the kernel and the reference end with equal results. -/
theorem equal_results : algebraic_KernelIdeal_ReferenceIdeal_pre_finite := fun m g m' g' hpre harg =>
  ⟨_, _, _, Fsq.Kernel.run m g, (θ_run _ _ _).mono (fun _ h c => by
    obtain ⟨W, hW, ha, hb⟩ := h.1 c
    obtain ⟨h0, h1, h2⟩ := Fsq.equation c (hpre c) hW (ha.trans (harg c))
    exact ⟨(hb _).trans h0, (hb _).trans h1, (hb _).trans h2, (hb _).trans ha⟩) (Fsq.Ref.run m' g')⟩

/-- Everything claimed of the kernel. -/
theorem claim : Cert.Claim :=
  ⟨Cert.Kernel.Gen.facts, Cert.KernelIdeal.Gen.facts, Cert.ReferenceIdeal.Gen.facts, Fsq.finite_facts,
    fun m g _ => Cert.Kernel.Gen.frame m g, fun m g _ => Cert.KernelIdeal.Gen.frame m g,
    fun m g _ => Cert.KernelIdeal.Gen.frame m g, reference_frame, fun m g _ => reference_frame m g trivial, trivial,
    equal_results⟩

end Cert.Proof

end
